-- ==== Defs.lean ====
def Pre_Split (m : (ℓ : Loc Cert.Split.nD Cert.Split.τ Cert.Split.sig) → Buf (Elt Bits) ℓ) : Prop :=
  True

def Pre_SplitRef (m : (ℓ : Loc Cert.SplitRef.nD Cert.SplitRef.τ Cert.SplitRef.sig) → Buf (Elt Bits) ℓ) : Prop :=
  True

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxRefIdeal (m : (ℓ : Loc Cert.DxRefIdeal.nD Cert.DxRefIdeal.τ Cert.DxRefIdeal.sig) → Buf (Elt Ideal) ℓ) : Prop :=
  True

def Pre_Dw (m : (ℓ : Loc Cert.Dw.nD Cert.Dw.τ Cert.Dw.sig) → Buf (Elt Bits) ℓ) : Prop :=
  True

def Pre_DwIdeal (m : (ℓ : Loc Cert.DwIdeal.nD Cert.DwIdeal.τ Cert.DwIdeal.sig) → Buf (Elt Ideal) ℓ) : Prop :=
  True

def Pre_DwRefIdeal (m : (ℓ : Loc Cert.DwRefIdeal.nD Cert.DwRefIdeal.τ Cert.DwRefIdeal.sig) → Buf (Elt Ideal) ℓ) : Prop :=
  True

def quiescent_Split [hSplit : Cert.Split.Facts] : Prop :=
  ∀ (m : (ℓ : Loc Cert.Split.nD Cert.Split.τ Cert.Split.sig) → Buf (Elt Bits) ℓ) (g : Dev Cert.Split.nD → PrngReg), Pre_Split m →
    θ_run (Cert.Split.defs (F := Bits)) (onTc (τ := Cert.Split.τ) (Cert.Split.main (F := Bits))) ⟨m, fun _ => 0, g⟩ (fun r => (∀ c : Dev Cert.Split.nD,
      r.2.mem ((c.tc : Thread Cert.Split.nD Cert.Split.τ).loc Cert.Split.main_arg0) = m ((c.tc : Thread Cert.Split.nD Cert.Split.τ).loc Cert.Split.main_arg0))
      ∧ r.2.sem = fun _ => 0)

def quiescent_SplitRef [hSplitRef : Cert.SplitRef.Facts] : Prop :=
  ∀ (m : (ℓ : Loc Cert.SplitRef.nD Cert.SplitRef.τ Cert.SplitRef.sig) → Buf (Elt Bits) ℓ) (g : Dev Cert.SplitRef.nD → PrngReg), Pre_SplitRef m →
    θ_run (Cert.SplitRef.defs (F := Bits)) (onTc (τ := Cert.SplitRef.τ) (Cert.SplitRef.main (F := Bits))) ⟨m, fun _ => 0, g⟩ (fun r => (∀ c : Dev Cert.SplitRef.nD,
      r.2.mem ((c.tc : Thread Cert.SplitRef.nD Cert.SplitRef.τ).loc Cert.SplitRef.main_arg0) = m ((c.tc : Thread Cert.SplitRef.nD Cert.SplitRef.τ).loc Cert.SplitRef.main_arg0))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2)
      ∧ r.2.mem ((c.tc : Thread Cert.Dx.nD Cert.Dx.τ).loc Cert.Dx.main_arg3) = m ((c.tc : Thread Cert.Dx.nD Cert.Dx.τ).loc Cert.Dx.main_arg3))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3))
      ∧ r.2.sem = fun _ => 0)

def quiescent_DxRefIdeal [hDxRefIdeal : Cert.DxRefIdeal.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2)
      ∧ r.2.mem ((c.tc : Thread Cert.DxRefIdeal.nD Cert.DxRefIdeal.τ).loc Cert.DxRefIdeal.main_arg3) = m ((c.tc : Thread Cert.DxRefIdeal.nD Cert.DxRefIdeal.τ).loc Cert.DxRefIdeal.main_arg3))
      ∧ r.2.sem = fun _ => 0)

def quiescent_Dw [hDw : Cert.Dw.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1)
      ∧ r.2.mem ((c.tc : Thread Cert.Dw.nD Cert.Dw.τ).loc Cert.Dw.main_arg2) = m ((c.tc : Thread Cert.Dw.nD Cert.Dw.τ).loc Cert.Dw.main_arg2))
      ∧ r.2.sem = fun _ => 0)

def quiescent_DwIdeal [hDwIdeal : Cert.DwIdeal.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
      ∧ r.2.mem ((c.tc : Thread Cert.DwIdeal.nD Cert.DwIdeal.τ).loc Cert.DwIdeal.main_arg2) = m ((c.tc : Thread Cert.DwIdeal.nD Cert.DwIdeal.τ).loc Cert.DwIdeal.main_arg2))
      ∧ r.2.sem = fun _ => 0)

def quiescent_DwRefIdeal [hDwRefIdeal : Cert.DwRefIdeal.Facts] : Prop :=
  ∀ (m : (ℓ : Loc Cert.DwRefIdeal.nD Cert.DwRefIdeal.τ Cert.DwRefIdeal.sig) → Buf (Elt Ideal) ℓ) (g : Dev Cert.DwRefIdeal.nD → PrngReg), Pre_DwRefIdeal m →
    θ_run (Cert.DwRefIdeal.defs (F := Ideal)) (onTc (τ := Cert.DwRefIdeal.τ) (Cert.DwRefIdeal.main (F := Ideal))) ⟨m, fun _ => 0, g⟩ (fun r => (∀ c : Dev Cert.DwRefIdeal.nD,
      r.2.mem ((c.tc : Thread Cert.DwRefIdeal.nD Cert.DwRefIdeal.τ).loc Cert.DwRefIdeal.main_arg0) = m ((c.tc : Thread Cert.DwRefIdeal.nD Cert.DwRefIdeal.τ).loc Cert.DwRefIdeal.main_arg0)
      ∧ r.2.mem ((c.tc : Thread Cert.DwRefIdeal.nD Cert.DwRefIdeal.τ).loc Cert.DwRefIdeal.main_arg1) = m ((c.tc : Thread Cert.DwRefIdeal.nD Cert.DwRefIdeal.τ).loc Cert.DwRefIdeal.main_arg1)
      ∧ r.2.mem ((c.tc : Thread Cert.DwRefIdeal.nD Cert.DwRefIdeal.τ).loc Cert.DwRefIdeal.main_arg2) = m ((c.tc : Thread Cert.DwRefIdeal.nD Cert.DwRefIdeal.τ).loc Cert.DwRefIdeal.main_arg2))
      ∧ r.2.sem = fun _ => 0)

def bitexact_Split_SplitRef [hSplit : Cert.Split.Facts] [hSplitRef : Cert.SplitRef.Facts] : Prop :=
  ∀ (m : (ℓ : Loc Cert.Split.nD Cert.Split.τ Cert.Split.sig) → Buf (Elt Bits) ℓ) (g : Dev Cert.Split.nD → PrngReg)
    (m' : (ℓ : Loc Cert.SplitRef.nD Cert.SplitRef.τ Cert.SplitRef.sig) → Buf (Elt Bits) ℓ) (g' : Dev Cert.SplitRef.nD → PrngReg), Pre_Split m →
    (∀ c : Dev Cert.Split.nD,
      m' ((c.tc : Thread Cert.SplitRef.nD Cert.SplitRef.τ).loc Cert.SplitRef.main_arg0) = m ((c.tc : Thread Cert.Split.nD Cert.Split.τ).loc Cert.Split.main_arg0)) →
    ∃ (v0 : (c : Dev Cert.Split.nD) → Buf (Elt Bits) ((c.tc : Thread Cert.Split.nD Cert.Split.τ).loc Cert.Split.main_v1)),
      θ_run (Cert.Split.defs (F := Bits)) (onTc (τ := Cert.Split.τ) (Cert.Split.main (F := Bits))) ⟨m, fun _ => 0, g⟩ (fun r => ∀ c : Dev Cert.Split.nD,
          r.2.mem ((c.tc : Thread Cert.Split.nD Cert.Split.τ).loc Cert.Split.main_v1) = v0 c
          ∧ r.2.mem ((c.tc : Thread Cert.Split.nD Cert.Split.τ).loc Cert.Split.main_arg0) = m ((c.tc : Thread Cert.Split.nD Cert.Split.τ).loc Cert.Split.main_arg0))
      ∧ θ_run (Cert.SplitRef.defs (F := Bits)) (onTc (τ := Cert.SplitRef.τ) (Cert.SplitRef.main (F := Bits))) ⟨m', fun _ => 0, g'⟩ (fun r => ∀ c : Dev Cert.SplitRef.nD,
          r.2.mem ((c.tc : Thread Cert.SplitRef.nD Cert.SplitRef.τ).loc Cert.SplitRef.main_v1) = v0 c
          ∧ r.2.mem ((c.tc : Thread Cert.SplitRef.nD Cert.SplitRef.τ).loc Cert.SplitRef.main_arg0) = m' ((c.tc : Thread Cert.SplitRef.nD Cert.SplitRef.τ).loc Cert.SplitRef.main_arg0))

def preserves_Dx_DxIdeal : Prop :=
  True

def algebraic_DxIdeal_DxRefIdeal [hDxIdeal : Cert.DxIdeal.Facts] [hDxRefIdeal : Cert.DxRefIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxRefIdeal.nD Cert.DxRefIdeal.τ Cert.DxRefIdeal.sig) → Buf (Elt Ideal) ℓ) (g' : Dev Cert.DxRefIdeal.nD → PrngReg), Pre_DxIdeal m →
    (∀ c : Dev Cert.DxIdeal.nD,
      m' ((c.tc : Thread Cert.DxRefIdeal.nD Cert.DxRefIdeal.τ).loc Cert.DxRefIdeal.main_arg0) = m ((c.tc : Thread Cert.DxIdeal.nD Cert.DxIdeal.τ).loc Cert.DxIdeal.main_arg0)
      ∧ m' ((c.tc : Thread Cert.DxRefIdeal.nD Cert.DxRefIdeal.τ).loc Cert.DxRefIdeal.main_arg1) = m ((c.tc : Thread Cert.DxIdeal.nD Cert.DxIdeal.τ).loc Cert.DxIdeal.main_arg1)
      ∧ m' ((c.tc : Thread Cert.DxRefIdeal.nD Cert.DxRefIdeal.τ).loc Cert.DxRefIdeal.main_arg2) = m ((c.tc : Thread Cert.DxIdeal.nD Cert.DxIdeal.τ).loc Cert.DxIdeal.main_arg2)
      ∧ m' ((c.tc : Thread Cert.DxRefIdeal.nD Cert.DxRefIdeal.τ).loc Cert.DxRefIdeal.main_arg3) = m ((c.tc : Thread Cert.DxIdeal.nD Cert.DxIdeal.τ).loc Cert.DxIdeal.main_arg3)) →
    ∃ (v0 : (c : Dev Cert.DxIdeal.nD) → Buf (Elt Ideal) ((c.tc : Thread Cert.DxIdeal.nD Cert.DxIdeal.τ).loc Cert.DxIdeal.main_v3)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v3) = v0 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
          ∧ r.2.mem ((c.tc : Thread Cert.DxIdeal.nD Cert.DxIdeal.τ).loc Cert.DxIdeal.main_arg3) = m ((c.tc : Thread Cert.DxIdeal.nD Cert.DxIdeal.τ).loc Cert.DxIdeal.main_arg3))
      ∧ θ_run (Cert.DxRefIdeal.defs (F := Ideal)) (onTc (τ := Cert.DxRefIdeal.τ) (Cert.DxRefIdeal.main (F := Ideal))) ⟨m', fun _ => 0, g'⟩ (fun r => ∀ c : Dev Cert.DxRefIdeal.nD,
          r.2.mem ((c.tc : Thread Cert.DxRefIdeal.nD Cert.DxRefIdeal.τ).loc Cert.DxRefIdeal.main_v25) = v0 c
          ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
          ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1)
          ∧ r.2.mem ((c.tc : Thread Cert.DxRefIdeal.nD Cert.DxRefIdeal.τ).loc Cert.DxRefIdeal.main_arg2) = m' ((c.tc : Thread Cert.DxRefIdeal.nD Cert.DxRefIdeal.τ).loc Cert.DxRefIdeal.main_arg2)
          ∧ r.2.mem ((c.tc : Thread Cert.DxRefIdeal.nD Cert.DxRefIdeal.τ).loc Cert.DxRefIdeal.main_arg3) = m' ((c.tc : Thread Cert.DxRefIdeal.nD Cert.DxRefIdeal.τ).loc Cert.DxRefIdeal.main_arg3))

def preserves_Dw_DwIdeal : Prop :=
  True

def algebraic_DwIdeal_DwRefIdeal [hDwIdeal : Cert.DwIdeal.Facts] [hDwRefIdeal : Cert.DwRefIdeal.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.DwRefIdeal.nD Cert.DwRefIdeal.τ Cert.DwRefIdeal.sig) → Buf (Elt Ideal) ℓ) (g' : Dev Cert.DwRefIdeal.nD → PrngReg), Pre_DwIdeal m →
    (∀ c : Dev Cert.DwIdeal.nD,
      m' ((c.tc : Thread Cert.DwRefIdeal.nD Cert.DwRefIdeal.τ).loc Cert.DwRefIdeal.main_arg0) = m ((c.tc : Thread Cert.DwIdeal.nD Cert.DwIdeal.τ).loc Cert.DwIdeal.main_arg0)
      ∧ m' ((c.tc : Thread Cert.DwRefIdeal.nD Cert.DwRefIdeal.τ).loc Cert.DwRefIdeal.main_arg1) = m ((c.tc : Thread Cert.DwIdeal.nD Cert.DwIdeal.τ).loc Cert.DwIdeal.main_arg1)
      ∧ m' ((c.tc : Thread Cert.DwRefIdeal.nD Cert.DwRefIdeal.τ).loc Cert.DwRefIdeal.main_arg2) = m ((c.tc : Thread Cert.DwIdeal.nD Cert.DwIdeal.τ).loc Cert.DwIdeal.main_arg2)) →
    ∃ (v0 : (c : Dev Cert.DwIdeal.nD) → Buf (Elt Ideal) ((c.tc : Thread Cert.DwIdeal.nD Cert.DwIdeal.τ).loc Cert.DwIdeal.main_v3)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v3) = v0 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
          ∧ r.2.mem ((c.tc : Thread Cert.DwIdeal.nD Cert.DwIdeal.τ).loc Cert.DwIdeal.main_arg2) = m ((c.tc : Thread Cert.DwIdeal.nD Cert.DwIdeal.τ).loc Cert.DwIdeal.main_arg2))
      ∧ θ_run (Cert.DwRefIdeal.defs (F := Ideal)) (onTc (τ := Cert.DwRefIdeal.τ) (Cert.DwRefIdeal.main (F := Ideal))) ⟨m', fun _ => 0, g'⟩ (fun r => ∀ c : Dev Cert.DwRefIdeal.nD,
          r.2.mem ((c.tc : Thread Cert.DwRefIdeal.nD Cert.DwRefIdeal.τ).loc Cert.DwRefIdeal.main_v15) = v0 c
          ∧ r.2.mem ((c.tc : Thread Cert.DwRefIdeal.nD Cert.DwRefIdeal.τ).loc Cert.DwRefIdeal.main_arg0) = m' ((c.tc : Thread Cert.DwRefIdeal.nD Cert.DwRefIdeal.τ).loc Cert.DwRefIdeal.main_arg0)
          ∧ r.2.mem ((c.tc : Thread Cert.DwRefIdeal.nD Cert.DwRefIdeal.τ).loc Cert.DwRefIdeal.main_arg1) = m' ((c.tc : Thread Cert.DwRefIdeal.nD Cert.DwRefIdeal.τ).loc Cert.DwRefIdeal.main_arg1)
          ∧ r.2.mem ((c.tc : Thread Cert.DwRefIdeal.nD Cert.DwRefIdeal.τ).loc Cert.DwRefIdeal.main_arg2) = m' ((c.tc : Thread Cert.DwRefIdeal.nD Cert.DwRefIdeal.τ).loc Cert.DwRefIdeal.main_arg2))

def Claim : Prop :=
  ∃ (hSplit : Cert.Split.Facts) (hSplitRef : Cert.SplitRef.Facts) (hDx : Cert.Dx.Facts) (hDxIdeal : Cert.DxIdeal.Facts) (hDxRefIdeal : Cert.DxRefIdeal.Facts) (hDw : Cert.Dw.Facts) (hDwIdeal : Cert.DwIdeal.Facts) (hDwRefIdeal : Cert.DwRefIdeal.Facts),
    quiescent_Split (hSplit := hSplit)
    ∧ quiescent_SplitRef (hSplitRef := hSplitRef)
    ∧ quiescent_Dx (hDx := hDx)
    ∧ quiescent_DxIdeal (hDxIdeal := hDxIdeal)
    ∧ quiescent_DxRefIdeal (hDxRefIdeal := hDxRefIdeal)
    ∧ quiescent_Dw (hDw := hDw)
    ∧ quiescent_DwIdeal (hDwIdeal := hDwIdeal)
    ∧ quiescent_DwRefIdeal (hDwRefIdeal := hDwRefIdeal)
    ∧ bitexact_Split_SplitRef (hSplit := hSplit) (hSplitRef := hSplitRef)
    ∧ preserves_Dx_DxIdeal
    ∧ algebraic_DxIdeal_DxRefIdeal (hDxIdeal := hDxIdeal) (hDxRefIdeal := hDxRefIdeal)
    ∧ preserves_Dw_DwIdeal
    ∧ algebraic_DwIdeal_DwRefIdeal (hDwIdeal := hDwIdeal) (hDwRefIdeal := hDwRefIdeal)
-- ==== Split.lean ====
abbrev S2x6144x1792 : Shape := ⟨3, ![2, 6144, 1792]⟩
abbrev S12288x1792 : Shape := ⟨2, ![12288, 1792]⟩
abbrev S8x1536x1792 : Shape := ⟨3, ![8, 1536, 1792]⟩
abbrev S12288x128 : Shape := ⟨2, ![12288, 128]⟩
abbrev S8x1536x128 : Shape := ⟨3, ![8, 1536, 128]⟩
abbrev S3072x128 : Shape := ⟨2, ![3072, 128]⟩
abbrev S384x128 : Shape := ⟨2, ![384, 128]⟩
abbrev S1536x128 : Shape := ⟨2, ![1536, 128]⟩
abbrev S1x1536x128 : Shape := ⟨3, ![1, 1536, 128]⟩

abbrev nBuf : Space → Nat
  | .hbm => 3
  | .vmem => 5
  | .smem => 0
  | _ => 0

abbrev bufTy : (tb : Table) → Fin (tcTables nBuf tb) → BufTy
  | .hbm, ⟨0, _⟩ => ⟨S2x6144x1792, .fp8e5m2⟩
  | .hbm, ⟨1, _⟩ => ⟨S12288x1792, .fp8e5m2⟩
  | .hbm, ⟨2, _⟩ => ⟨S8x1536x1792, .fp8e5m2⟩
  | .local _ .vmem, ⟨0, _⟩ => ⟨S12288x128, .fp8e5m2⟩
  | .local _ .vmem, ⟨1, _⟩ => ⟨S12288x128, .fp8e5m2⟩
  | .local _ .vmem, ⟨2, _⟩ => ⟨S8x1536x128, .fp8e5m2⟩
  | .local _ .vmem, ⟨3, _⟩ => ⟨S8x1536x128, .fp8e5m2⟩
  | .local _ .vmem, ⟨4, _⟩ => ⟨S3072x128, .i32⟩
  | _, _ => ⟨S2x6144x1792, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [BitOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S12288x128 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1536x128 .fp8e5m2 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SplitRef.lean ====
abbrev S2x6144x1792 : Shape := ⟨3, ![2, 6144, 1792]⟩
abbrev S1536x8x1792 : Shape := ⟨3, ![1536, 8, 1792]⟩
abbrev S8x1536x1792 : Shape := ⟨3, ![8, 1536, 1792]⟩

abbrev nBuf : Space → Nat
  | .hbm => 3
  | .vmem => 0
  | .smem => 0
  | _ => 0

abbrev bufTy : (tb : Table) → Fin (tcTables nBuf tb) → BufTy
  | .hbm, ⟨0, _⟩ => ⟨S2x6144x1792, .fp8e5m2⟩
  | .hbm, ⟨1, _⟩ => ⟨S1536x8x1792, .fp8e5m2⟩
  | .hbm, ⟨2, _⟩ => ⟨S8x1536x1792, .fp8e5m2⟩
  | _, _ => ⟨S2x6144x1792, .fp8e5m2⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== Dx.lean ====
abbrev S8x1536x1792 : Shape := ⟨3, ![8, 1536, 1792]⟩
abbrev S2x768 : Shape := ⟨2, ![2, 768]⟩
abbrev S16x3584x1792 : Shape := ⟨3, ![16, 3584, 1792]⟩
abbrev S1792 : Shape := ⟨1, ![1792]⟩
abbrev S1536x1 : Shape := ⟨2, ![1536, 1]⟩
abbrev S2x8x3584x1792 : Shape := ⟨4, ![2, 8, 3584, 1792]⟩
abbrev S1x1792 : Shape := ⟨2, ![1, 1792]⟩
abbrev S1536x3584 : Shape := ⟨2, ![1536, 3584]⟩
abbrev S1x1536x1792 : Shape := ⟨3, ![1, 1536, 1792]⟩
abbrev S2x1x512x1792 : Shape := ⟨4, ![2, 1, 512, 1792]⟩
abbrev S1536x512 : Shape := ⟨2, ![1536, 512]⟩
abbrev S2x1536x512 : Shape := ⟨3, ![2, 1536, 512]⟩
abbrev S1536x1792 : Shape := ⟨2, ![1536, 1792]⟩
abbrev S1x1536x512 : Shape := ⟨3, ![1, 1536, 512]⟩
abbrev S1x1x512x1792 : Shape := ⟨4, ![1, 1, 512, 1792]⟩
abbrev S512x1792 : Shape := ⟨2, ![512, 1792]⟩

abbrev nBuf : Space → Nat
  | .hbm => 8
  | .vmem => 9
  | .smem => 0
  | _ => 0

abbrev bufTy : (tb : Table) → Fin (tcTables nBuf tb) → BufTy
  | .hbm, ⟨0, _⟩ => ⟨S8x1536x1792, .fp8e5m2⟩
  | .hbm, ⟨1, _⟩ => ⟨S2x768, .f32⟩
  | .hbm, ⟨2, _⟩ => ⟨S16x3584x1792, .fp8e4m3⟩
  | .hbm, ⟨3, _⟩ => ⟨S1792, .f32⟩
  | .hbm, ⟨4, _⟩ => ⟨S1536x1, .f32⟩
  | .hbm, ⟨5, _⟩ => ⟨S2x8x3584x1792, .fp8e4m3⟩
  | .hbm, ⟨6, _⟩ => ⟨S1x1792, .f32⟩
  | .hbm, ⟨7, _⟩ => ⟨S1536x3584, .bf16⟩
  | .local _ .vmem, ⟨0, _⟩ => ⟨S1x1536x1792, .fp8e5m2⟩
  | .local _ .vmem, ⟨1, _⟩ => ⟨S1x1536x1792, .fp8e5m2⟩
  | .local _ .vmem, ⟨2, _⟩ => ⟨S2x1x512x1792, .fp8e4m3⟩
  | .local _ .vmem, ⟨3, _⟩ => ⟨S2x1x512x1792, .fp8e4m3⟩
  | .local _ .vmem, ⟨4, _⟩ => ⟨S1x1792, .f32⟩
  | .local _ .vmem, ⟨5, _⟩ => ⟨S1536x1, .f32⟩
  | .local _ .vmem, ⟨6, _⟩ => ⟨S1536x512, .bf16⟩
  | .local _ .vmem, ⟨7, _⟩ => ⟨S1536x512, .bf16⟩
  | .local _ .vmem, ⟨8, _⟩ => ⟨S2x1536x512, .f32⟩
  | _, _ => ⟨S8x1536x1792, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![7, 8], ![false, false]⟩

def k0_cond2 (i : grid0.Coords) : BitVec 1 :=
  let arg1 : BitVec 32 := BitVec.ofNat 32 (i 1).val
  let c7_i32 : BitVec 32 := 7#32
  let v29 : BitVec 1 := Scalar.cmpi .eq arg1 c7_i32
  let v30 : BitVec 32 := Scalar.extui v29
  let c0_i32_25 : BitVec 32 := 0#32
  let v31 : BitVec 1 := Scalar.cmpi .ne v30 c0_i32_25
  v31

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x1536x1792 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2x1x512x1792 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1792 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1536x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1536x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== DxRefIdeal.lean ====
abbrev S8x1536x1792 : Shape := ⟨3, ![8, 1536, 1792]⟩
abbrev S2x768 : Shape := ⟨2, ![2, 768]⟩
abbrev S16x3584x1792 : Shape := ⟨3, ![16, 3584, 1792]⟩
abbrev S1792 : Shape := ⟨1, ![1792]⟩
abbrev S8x2x768x1792 : Shape := ⟨4, ![8, 2, 768, 1792]⟩
abbrev S2x768x8x1792 : Shape := ⟨4, ![2, 768, 8, 1792]⟩
abbrev S1x1x1792 : Shape := ⟨3, ![1, 1, 1792]⟩
abbrev S2x8x3584x1792 : Shape := ⟨4, ![2, 8, 3584, 1792]⟩
abbrev S1x8x3584x1792 : Shape := ⟨4, ![1, 8, 3584, 1792]⟩
abbrev S8x3584x1792 : Shape := ⟨3, ![8, 3584, 1792]⟩
abbrev S2x768x3584 : Shape := ⟨3, ![2, 768, 3584]⟩
abbrev S2x768x1 : Shape := ⟨3, ![2, 768, 1]⟩
abbrev S2x767x8x1792 : Shape := ⟨4, ![2, 767, 8, 1792]⟩
abbrev S2x767x3584 : Shape := ⟨3, ![2, 767, 3584]⟩
abbrev S2x767 : Shape := ⟨2, ![2, 767]⟩
abbrev S2x767x1 : Shape := ⟨3, ![2, 767, 1]⟩
abbrev S_ : Shape := ⟨0, ![]⟩
abbrev S1 : Shape := ⟨1, ![1]⟩
abbrev S1536x3584 : Shape := ⟨2, ![1536, 3584]⟩

abbrev nBuf : Space → Nat
  | .hbm => 32
  | .vmem => 4
  | .smem => 0
  | _ => 0

abbrev bufTy : (tb : Table) → Fin (tcTables nBuf tb) → BufTy
  | .hbm, ⟨0, _⟩ => ⟨S8x1536x1792, .fp8e5m2⟩
  | .hbm, ⟨1, _⟩ => ⟨S2x768, .f32⟩
  | .hbm, ⟨2, _⟩ => ⟨S16x3584x1792, .fp8e4m3⟩
  | .hbm, ⟨3, _⟩ => ⟨S1792, .f32⟩
  | .hbm, ⟨4, _⟩ => ⟨S8x1536x1792, .bf16⟩
  | .hbm, ⟨5, _⟩ => ⟨S16x3584x1792, .bf16⟩
  | .hbm, ⟨6, _⟩ => ⟨S8x2x768x1792, .bf16⟩
  | .hbm, ⟨7, _⟩ => ⟨S2x768x8x1792, .bf16⟩
  | .hbm, ⟨8, _⟩ => ⟨S1792, .bf16⟩
  | .hbm, ⟨9, _⟩ => ⟨S1x1x1792, .bf16⟩
  | .hbm, ⟨10, _⟩ => ⟨S16x3584x1792, .bf16⟩
  | .hbm, ⟨11, _⟩ => ⟨S16x3584x1792, .bf16⟩
  | .hbm, ⟨12, _⟩ => ⟨S2x8x3584x1792, .bf16⟩
  | .hbm, ⟨13, _⟩ => ⟨S1x8x3584x1792, .bf16⟩
  | .hbm, ⟨14, _⟩ => ⟨S8x3584x1792, .bf16⟩
  | .hbm, ⟨15, _⟩ => ⟨S2x768x3584, .f32⟩
  | .hbm, ⟨16, _⟩ => ⟨S2x768x1, .f32⟩
  | .hbm, ⟨17, _⟩ => ⟨S2x768x3584, .f32⟩
  | .hbm, ⟨18, _⟩ => ⟨S2x768x3584, .f32⟩
  | .hbm, ⟨19, _⟩ => ⟨S2x767x8x1792, .bf16⟩
  | .hbm, ⟨20, _⟩ => ⟨S1x8x3584x1792, .bf16⟩
  | .hbm, ⟨21, _⟩ => ⟨S8x3584x1792, .bf16⟩
  | .hbm, ⟨22, _⟩ => ⟨S2x767x3584, .f32⟩
  | .hbm, ⟨23, _⟩ => ⟨S2x767, .f32⟩
  | .hbm, ⟨24, _⟩ => ⟨S2x767x1, .f32⟩
  | .hbm, ⟨25, _⟩ => ⟨S2x767x3584, .f32⟩
  | .hbm, ⟨26, _⟩ => ⟨S2x767x3584, .f32⟩
  | .hbm, ⟨27, _⟩ => ⟨S_, .i32⟩
  | .hbm, ⟨28, _⟩ => ⟨S1, .i32⟩
  | .hbm, ⟨29, _⟩ => ⟨S2x768x3584, .f32⟩
  | .hbm, ⟨30, _⟩ => ⟨S2x768x3584, .bf16⟩
  | .hbm, ⟨31, _⟩ => ⟨S1536x3584, .bf16⟩
  | .local _ .vmem, ⟨0, _⟩ => ⟨S8x1536x1792, .fp8e5m2⟩
  | .local _ .vmem, ⟨1, _⟩ => ⟨S16x3584x1792, .fp8e4m3⟩
  | .local _ .vmem, ⟨2, _⟩ => ⟨S8x1536x1792, .bf16⟩
  | .local _ .vmem, ⟨3, _⟩ => ⟨S16x3584x1792, .bf16⟩
  | _, _ => ⟨S8x1536x1792, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_c : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8x1536x1792 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x3584x1792 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1536x1792 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x3584x1792 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Dw.lean ====
abbrev S2x768x3584 : Shape := ⟨3, ![2, 768, 3584]⟩
abbrev S8x1536x1792 : Shape := ⟨3, ![8, 1536, 1792]⟩
abbrev S2x768 : Shape := ⟨2, ![2, 768]⟩
abbrev S1536x1 : Shape := ⟨2, ![1536, 1]⟩
abbrev S1536x3584 : Shape := ⟨2, ![1536, 3584]⟩
abbrev S2x3584x1536 : Shape := ⟨3, ![2, 3584, 1536]⟩
abbrev S1536x256 : Shape := ⟨2, ![1536, 256]⟩
abbrev S2x256x1536 : Shape := ⟨3, ![2, 256, 1536]⟩
abbrev S256x1536 : Shape := ⟨2, ![256, 1536]⟩
abbrev S1x256x1536 : Shape := ⟨3, ![1, 256, 1536]⟩
abbrev S2x8x3584x1792 : Shape := ⟨4, ![2, 8, 3584, 1792]⟩
abbrev S1x1536x256 : Shape := ⟨3, ![1, 1536, 256]⟩
abbrev S2x1x3584x256 : Shape := ⟨4, ![2, 1, 3584, 256]⟩
abbrev S1x3584x1536 : Shape := ⟨3, ![1, 3584, 1536]⟩
abbrev S3584x1536 : Shape := ⟨2, ![3584, 1536]⟩
abbrev S3584x256 : Shape := ⟨2, ![3584, 256]⟩
abbrev S1x1x3584x256 : Shape := ⟨4, ![1, 1, 3584, 256]⟩

abbrev nBuf : Space → Nat
  | .hbm => 7
  | .vmem => 10
  | .smem => 0
  | _ => 0

abbrev bufTy : (tb : Table) → Fin (tcTables nBuf tb) → BufTy
  | .hbm, ⟨0, _⟩ => ⟨S2x768x3584, .bf16⟩
  | .hbm, ⟨1, _⟩ => ⟨S8x1536x1792, .fp8e5m2⟩
  | .hbm, ⟨2, _⟩ => ⟨S2x768, .f32⟩
  | .hbm, ⟨3, _⟩ => ⟨S1536x1, .f32⟩
  | .hbm, ⟨4, _⟩ => ⟨S1536x3584, .bf16⟩
  | .hbm, ⟨5, _⟩ => ⟨S2x3584x1536, .bf16⟩
  | .hbm, ⟨6, _⟩ => ⟨S2x8x3584x1792, .f32⟩
  | .local _ .vmem, ⟨0, _⟩ => ⟨S1536x256, .bf16⟩
  | .local _ .vmem, ⟨1, _⟩ => ⟨S1536x256, .bf16⟩
  | .local _ .vmem, ⟨2, _⟩ => ⟨S1536x1, .f32⟩
  | .local _ .vmem, ⟨3, _⟩ => ⟨S2x256x1536, .bf16⟩
  | .local _ .vmem, ⟨4, _⟩ => ⟨S2x256x1536, .bf16⟩
  | .local _ .vmem, ⟨5, _⟩ => ⟨S1x1536x256, .fp8e5m2⟩
  | .local _ .vmem, ⟨6, _⟩ => ⟨S1x1536x256, .fp8e5m2⟩
  | .local _ .vmem, ⟨7, _⟩ => ⟨S2x3584x1536, .bf16⟩
  | .local _ .vmem, ⟨8, _⟩ => ⟨S2x1x3584x256, .f32⟩
  | .local _ .vmem, ⟨9, _⟩ => ⟨S2x1x3584x256, .f32⟩
  | _, _ => ⟨S2x768x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1536x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x256x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 7], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

abbrev stage1_0 : Fin 2 → Memref sig .tc .vmem S1x1536x256 .fp8e5m2 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S2x3584x1536 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S2x1x3584x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== DwRefIdeal.lean ====
abbrev S2x768x3584 : Shape := ⟨3, ![2, 768, 3584]⟩
abbrev S8x1536x1792 : Shape := ⟨3, ![8, 1536, 1792]⟩
abbrev S2x768 : Shape := ⟨2, ![2, 768]⟩
abbrev S8x2x768x1792 : Shape := ⟨4, ![8, 2, 768, 1792]⟩
abbrev S2x768x8x1792 : Shape := ⟨4, ![2, 768, 8, 1792]⟩
abbrev S2x768x1x1 : Shape := ⟨4, ![2, 768, 1, 1]⟩
abbrev S8x1792x3584 : Shape := ⟨3, ![8, 1792, 3584]⟩
abbrev S8x3584x1792 : Shape := ⟨3, ![8, 3584, 1792]⟩
abbrev S2x767x3584 : Shape := ⟨3, ![2, 767, 3584]⟩
abbrev S2x767x8x1792 : Shape := ⟨4, ![2, 767, 8, 1792]⟩
abbrev S1x8x3584x1792 : Shape := ⟨4, ![1, 8, 3584, 1792]⟩
abbrev S2x8x3584x1792 : Shape := ⟨4, ![2, 8, 3584, 1792]⟩

abbrev nBuf : Space → Nat
  | .hbm => 19
  | .vmem => 2
  | .smem => 0
  | _ => 0

abbrev bufTy : (tb : Table) → Fin (tcTables nBuf tb) → BufTy
  | .hbm, ⟨0, _⟩ => ⟨S2x768x3584, .bf16⟩
  | .hbm, ⟨1, _⟩ => ⟨S8x1536x1792, .fp8e5m2⟩
  | .hbm, ⟨2, _⟩ => ⟨S2x768, .f32⟩
  | .hbm, ⟨3, _⟩ => ⟨S8x1536x1792, .bf16⟩
  | .hbm, ⟨4, _⟩ => ⟨S8x2x768x1792, .bf16⟩
  | .hbm, ⟨5, _⟩ => ⟨S2x768x8x1792, .bf16⟩
  | .hbm, ⟨6, _⟩ => ⟨S2x768, .bf16⟩
  | .hbm, ⟨7, _⟩ => ⟨S2x768x1x1, .bf16⟩
  | .hbm, ⟨8, _⟩ => ⟨S2x768x8x1792, .bf16⟩
  | .hbm, ⟨9, _⟩ => ⟨S2x768x8x1792, .bf16⟩
  | .hbm, ⟨10, _⟩ => ⟨S8x1792x3584, .f32⟩
  | .hbm, ⟨11, _⟩ => ⟨S8x3584x1792, .f32⟩
  | .hbm, ⟨12, _⟩ => ⟨S2x767x3584, .bf16⟩
  | .hbm, ⟨13, _⟩ => ⟨S2x767x8x1792, .bf16⟩
  | .hbm, ⟨14, _⟩ => ⟨S8x1792x3584, .f32⟩
  | .hbm, ⟨15, _⟩ => ⟨S8x3584x1792, .f32⟩
  | .hbm, ⟨16, _⟩ => ⟨S1x8x3584x1792, .f32⟩
  | .hbm, ⟨17, _⟩ => ⟨S1x8x3584x1792, .f32⟩
  | .hbm, ⟨18, _⟩ => ⟨S2x8x3584x1792, .f32⟩
  | .local _ .vmem, ⟨0, _⟩ => ⟨S8x1536x1792, .fp8e5m2⟩
  | .local _ .vmem, ⟨1, _⟩ => ⟨S8x1536x1792, .bf16⟩
  | _, _ => ⟨S2x768x3584, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x1536x1792 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1536x1792 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.SplitWords.lean ====
/-
  Bytes of 32-bit words: what two rounds of masked shifts do to four words (word `r`, byte `q` of the outcome `q` is
  byte `q` of word `r`), and which bytes the kernel's reinterpretations read.
-/
module
public import proofs.«01_k».proof.Proof.Gen.Split
public import Idealize.ShloMosaic.Lib.BitcastFour
public import Idealize.ShloMosaic.Lib.ValueIdx
public import Idealize.ShloMosaic.Lib.Pointwise
@[expose] public section
set_option maxRecDepth 16384
noncomputable section
open Idealize.ShloMosaic Idealize.ShloMosaic.TcCoe
namespace Cert.Split.Hand
open Cert.Split Cert.Split.Gen

/-- Bytes 0 and 2 of two words, in turn. -/
def even2 (a b : BitVec 32) : BitVec 32 :=
  IntOp.ori (IntOp.andi a 16711935#32) (IntOp.shli .vector (IntOp.andi b 16711935#32) 8#32)
/-- Bytes 1 and 3 of two words, in turn. -/
def odd2 (a b : BitVec 32) : BitVec 32 :=
  IntOp.ori (IntOp.andi (IntOp.shrui .vector a 8#32) 16711935#32) (IntOp.andi b 4278255360#32)
/-- The low halves of two words. -/
def low2 (a b : BitVec 32) : BitVec 32 :=
  IntOp.ori (IntOp.andi a 65535#32) (IntOp.shli .vector b 16#32)
/-- The high halves of two words. -/
def high2 (a b : BitVec 32) : BitVec 32 :=
  IntOp.ori (IntOp.shrui .vector a 16#32) (IntOp.andi b 4294901760#32)

/-- Byte `q` of a word. -/
abbrev byte (w : BitVec 32) (q : Fin 4) : BitVec 8 := w.extractLsb' (8 * q.val) 8

theorem byte_even2 (a b : BitVec 32) :
    byte (even2 a b) 0 = byte a 0 ∧ byte (even2 a b) 1 = byte b 0 ∧ byte (even2 a b) 2 = byte a 2 ∧ byte (even2 a b) 3 = byte b 2 := by
  refine ⟨?_, ?_, ?_, ?_⟩ <;> apply BitVec.eq_of_getLsbD_eq <;> intro i hi <;> interval_cases i <;>
    simp [byte, even2, IntOp.ori, IntOp.andi, IntOp.shli]
theorem byte_odd2 (a b : BitVec 32) :
    byte (odd2 a b) 0 = byte a 1 ∧ byte (odd2 a b) 1 = byte b 1 ∧ byte (odd2 a b) 2 = byte a 3 ∧ byte (odd2 a b) 3 = byte b 3 := by
  refine ⟨?_, ?_, ?_, ?_⟩ <;> apply BitVec.eq_of_getLsbD_eq <;> intro i hi <;> interval_cases i <;>
    simp [byte, odd2, IntOp.ori, IntOp.andi, IntOp.shrui]
theorem byte_low2 (a b : BitVec 32) :
    byte (low2 a b) 0 = byte a 0 ∧ byte (low2 a b) 1 = byte a 1 ∧ byte (low2 a b) 2 = byte b 0 ∧ byte (low2 a b) 3 = byte b 1 := by
  refine ⟨?_, ?_, ?_, ?_⟩ <;> apply BitVec.eq_of_getLsbD_eq <;> intro i hi <;> interval_cases i <;>
    simp [byte, low2, IntOp.ori, IntOp.andi, IntOp.shli]
theorem byte_high2 (a b : BitVec 32) :
    byte (high2 a b) 0 = byte a 2 ∧ byte (high2 a b) 1 = byte a 3 ∧ byte (high2 a b) 2 = byte b 2 ∧ byte (high2 a b) 3 = byte b 3 := by
  refine ⟨?_, ?_, ?_, ?_⟩ <;> apply BitVec.eq_of_getLsbD_eq <;> intro i hi <;> interval_cases i <;>
    simp [byte, high2, IntOp.ori, IntOp.andi, IntOp.shrui]

/-- The kernel's four outcomes of four words. -/
def mix (q : Fin 4) (w : Fin 4 → BitVec 32) : BitVec 32 :=
  match q with
  | 0 => low2 (even2 (w 0) (w 1)) (even2 (w 2) (w 3))
  | 1 => low2 (odd2 (w 0) (w 1)) (odd2 (w 2) (w 3))
  | 2 => high2 (even2 (w 0) (w 1)) (even2 (w 2) (w 3))
  | 3 => high2 (odd2 (w 0) (w 1)) (odd2 (w 2) (w 3))

/-- Byte `r` of outcome `q` is byte `q` of word `r`: the four words' bytes, transposed. -/
theorem byte_mix (q r : Fin 4) (w : Fin 4 → BitVec 32) : byte (mix q w) r = byte (w r) q := by
  obtain ⟨a0, a1, a2, a3⟩ := byte_even2 (w 0) (w 1)
  obtain ⟨b0, b1, b2, b3⟩ := byte_even2 (w 2) (w 3)
  obtain ⟨c0, c1, c2, c3⟩ := byte_odd2 (w 0) (w 1)
  obtain ⟨d0, d1, d2, d3⟩ := byte_odd2 (w 2) (w 3)
  obtain ⟨e0, e1, e2, e3⟩ := byte_low2 (even2 (w 0) (w 1)) (even2 (w 2) (w 3))
  obtain ⟨f0, f1, f2, f3⟩ := byte_low2 (odd2 (w 0) (w 1)) (odd2 (w 2) (w 3))
  obtain ⟨g0, g1, g2, g3⟩ := byte_high2 (even2 (w 0) (w 1)) (even2 (w 2) (w 3))
  obtain ⟨h0, h1, h2, h3⟩ := byte_high2 (odd2 (w 0) (w 1)) (odd2 (w 2) (w 3))
  match q, r with
  | 0, 0 => exact e0.trans a0
  | 0, 1 => exact e1.trans a1
  | 0, 2 => exact e2.trans b0
  | 0, 3 => exact e3.trans b1
  | 1, 0 => exact f0.trans c0
  | 1, 1 => exact f1.trans c1
  | 1, 2 => exact f2.trans d0
  | 1, 3 => exact f3.trans d1
  | 2, 0 => exact g0.trans a2
  | 2, 1 => exact g1.trans a3
  | 2, 2 => exact g2.trans b2
  | 2, 3 => exact g3.trans b3
  | 3, 0 => exact h0.trans c2
  | 3, 1 => exact h1.trans c3
  | 3, 2 => exact h2.trans d2
  | 3, 3 => exact h3.trans d3

/-- Byte `q` of the word that four rows spell is the row `q` of the four. -/
theorem byte_words (x : IVec S12288x128 8) (a : Fin 3072) (l : Fin 128) (q : Fin 4) :
    byte (bitcast S3072x128 32 x bitcasts_S12288x128_w8_S3072x128_w32 (ix2 a l)) q
      = x (ix2 (⟨4 * a.val + q.val, by have := a.isLt; have := q.isLt; omega⟩ : Fin 12288) l) := by
  apply BitVec.eq_of_getLsbD_eq
  intro i hi
  have hq := q.isLt
  rw [BitVec.getLsbD_extractLsb', decide_eq_true hi, Bool.true_and]
  refine (bitcast_8_32_getLsbD_ix2 x _ a l (8 * q.val + i) (by omega)
    ⟨4 * a.val + q.val, by have := a.isLt; omega⟩ (by show 4 * a.val + q.val = 4 * a.val + (8 * q.val + i) / 8; omega)).trans ?_
  rw [show (8 * q.val + i) % 8 = i by omega]
  rfl

/-- Row `4 j + r` of the rows that words spell is byte `r` of word `j`. -/
theorem rows_byte (w : IVec S384x128 32) (j : Fin 384) (r : Fin 4) (l : Fin 128) :
    bitcast S1536x128 8 w bitcasts_S384x128_w32_S1536x128_w8
        (ix2 (⟨4 * j.val + r.val, by have := j.isLt; have := r.isLt; omega⟩ : Fin 1536) l)
      = byte (w (ix2 j l)) r := by
  apply BitVec.eq_of_getLsbD_eq
  intro i hi
  have hr := r.isLt
  rw [BitVec.getLsbD_extractLsb', decide_eq_true hi, Bool.true_and, bitcast_getLsbD _ _ _ i hi (by decide)]
  have e : Shape.row (s := S1536x128) (ix2 (⟨4 * j.val + r.val, by have := j.isLt; omega⟩ : Fin 1536) l) = 4 * j.val + r.val := rfl
  have e1 : ((4 * j.val + r.val) * 8 + i) / 32 = j.val := by omega
  have e2 : ((4 * j.val + r.val) * 8 + i) % 32 = 8 * r.val + i := by omega
  congr 1
  · refine congrArg w ?_
    funext c
    match c with
    | ⟨0, _⟩ => exact Fin.ext ((Shape.Bitcasts.srcIdx_row _ _ _ _ ⟨0, Nat.zero_lt_two⟩ rfl).trans e1)
    | ⟨1, _⟩ => exact Fin.ext (Shape.Bitcasts.srcIdx_other _ _ _ _ ⟨1, Nat.one_lt_two⟩ (by show ¬ 1 + 2 = 2; omega))

end Cert.Split.Hand
-- ==== Proof.SplitStep.lean ====
/-
  What one grid point of the phase kernel leaves: of its block of 12288 rows, slab `p` holds row `8 t + p` at row `t`.
-/
module
public import proofs.«01_k».proof.Proof.Gen.Split.Value
public import proofs.«01_k».proof.Proof.SplitWords
public import Idealize.ShloMosaic.Lib.Pipeline.Value
public import Idealize.ShloMosaic.Lib.Tactic
@[expose] public section
set_option maxRecDepth 16384
noncomputable section
open Idealize.ShloMosaic Idealize.ShloMosaic.TcCoe Idealize.SL.Sem
namespace Cert.Split.Hand
open Cert.Split Cert.Split.Gen

/-! ## The stored slabs -/

/-- The slab a payload stores: the words' rows. -/
def slab (w : IVec S384x128 32) : FVec Bits S1x1536x128 .fp8e5m2 :=
  shapeCast S1x1536x128 (bitcastToFloat (F := Bits) .fp8e5m2 (bitcast S1536x128 8 w bitcasts_S384x128_w32_S1536x128_w8)) shapeCasts_S1536x128_S1x1536x128

/-- Outcome `q` of four vectors of words, elementwise. -/
def mixV (q : Fin 4) (v : Fin 4 → IVec S384x128 32) : IVec S384x128 32 := fun i => mix q fun r => v r i

variable (v : Fin 4 → IVec S384x128 32)

theorem slab0 : k0_pay11 (F := Bits) (k0_pay6 (F := Bits) (v 0) (v 1)) (k0_pay8 (F := Bits) (v 2) (v 3)) = slab (mixV 0 v) := rfl
theorem slab1 : k0_pay12 (F := Bits) (v 3) (k0_pay7 (F := Bits) (v 0) (v 1)) (k0_pay9 (F := Bits) (v 2)) = slab (mixV 1 v) := rfl
theorem slab2 : k0_pay13 (F := Bits) (k0_pay6 (F := Bits) (v 0) (v 1)) (k0_pay8 (F := Bits) (v 2) (v 3)) = slab (mixV 2 v) := rfl
theorem slab3 : k0_pay15 (F := Bits) (k0_pay14 (F := Bits) (v 3) (k0_pay7 (F := Bits) (v 0) (v 1)) (k0_pay9 (F := Bits) (v 2))) = slab (mixV 3 v) := rfl
theorem slab4 : k0_pay1 (F := Bits) (k0_pay18 (F := Bits) (v 2) (v 3)) (k0_pay20 (F := Bits) (v 0) (v 1)) 16#32 = slab (mixV 0 v) := rfl
theorem slab5 : k0_pay2 (F := Bits) (k0_pay17 (F := Bits) (v 0) (v 1)) (k0_pay19 (F := Bits) (v 2) (v 3)) = slab (mixV 1 v) := rfl
theorem slab6 : k0_pay3 (F := Bits) (k0_pay16 (F := Bits) (v 0) (v 1)) (k0_pay18 (F := Bits) (v 2) (v 3)) = slab (mixV 2 v) := rfl
theorem slab7 : k0_pay4 (F := Bits) (k0_pay17 (F := Bits) (v 0) (v 1)) (k0_pay19 (F := Bits) (v 2) (v 3)) = slab (mixV 3 v) := rfl

/-- Row `4 j + r` of the slab of outcome `q` is byte `q` of word `r` at `j`. -/
theorem slab_apply (q : Fin 4) (j : Fin 384) (r : Fin 4) (l : Fin 128) :
    (slab (mixV q v) (ix3 0 (⟨4 * j.val + r.val, by have := j.isLt; have := r.isLt; omega⟩ : Fin 1536) l) : BitVec 8)
      = byte (v r (ix2 j l)) q := by
  refine Eq.trans ?_ ((rows_byte (mixV q v) j r l).trans (byte_mix q r fun r => v r (ix2 j l)))
  unfold slab
  pointwise
  rfl

/-- The scratch holds four rows of the block per word. -/
theorem words_apply (x : Vec Bits S12288x128 .fp8e5m2) (a : Fin 3072) (l : Fin 128) (q : Fin 4) :
    byte (k0_pay5 (F := Bits) x (ix2 a l)) q
      = x (ix2 (⟨4 * a.val + q.val, by have := a.isLt; have := q.isLt; omega⟩ : Fin 12288) l) := by
  refine Eq.trans ?_ (byte_words x a l q)
  unfold k0_pay5
  congr 1
  pointwise
  rfl

/-! ## The eight stores -/

theorem exists_ix3 (y : S8x1536x128.Idx) : ∃ (p : Fin 8) (t : Fin 1536) (l : Fin 128), y = ix3 p t l :=
  ⟨y 0, y 1, y 2, by funext a; fin_cases a <;> rfl⟩

/-- A slab's rectangle does not hold another slab's indices. -/
theorem not_slab (n : Nat) (h : ∀ a, (![n, 0, 0] : Fin 3 → Nat) a + (![1, 1536, 128] : Fin 3 → Nat) a ≤ S8x1536x128.size a) (y : S8x1536x128.Idx)
    (hy : (y 0).val ≠ n) : y ∉ (Rect.unit (s := S8x1536x128) ![n, 0, 0] ![1, 1536, 128] h).set := by
  rw [Rect.mem_set_unit]
  intro hm
  have h1 : n ≤ (y 0).val := (hm 0).1
  have h2 : (y 0).val < n + 1 := (hm 0).2
  omega

/-- A store elsewhere leaves a slab as it was. -/
theorem skip (n : Nat) (h) (W : S1x1536x128.Idx → Elt Bits .fp8e5m2) (L : List (View.Piece (Elt Bits) S8x1536x128 .fp8e5m2))
    (y : S8x1536x128.Idx) (hy : (y 0).val ≠ n) :
    View.canon ((⟨Rect.unit ![n, 0, 0] ![1, 1536, 128] h, W⟩ : View.Piece (Elt Bits) S8x1536x128 .fp8e5m2) :: L) y = View.canon L y := by
  rw [View.canon_cons_of_not_mem]
  exact not_slab n h y hy

/-- A store into a slab is what the slab holds. -/
theorem hit (n : Fin 8) (h) (W : S1x1536x128.Idx → Elt Bits .fp8e5m2) (L : List (View.Piece (Elt Bits) S8x1536x128 .fp8e5m2))
    (t : Fin 1536) (l : Fin 128) :
    View.canon ((⟨Rect.unit ![n.val, 0, 0] ![1, 1536, 128] h, W⟩ : View.Piece (Elt Bits) S8x1536x128 .fp8e5m2) :: L) (ix3 n t l) = W (ix3 0 t l) := by
  have e : (ix3 n t l : S8x1536x128.Idx) = (Rect.unit (s := S8x1536x128) ![n.val, 0, 0] ![1, 1536, 128] h).emb (ix3 0 t l) := by
    funext a; apply Fin.ext
    match a with
    | ⟨0, _⟩ => show n.val = n.val + 1 * 0; omega
    | ⟨1, _⟩ => show t.val = 0 + 1 * t.val; omega
    | ⟨2, _⟩ => show l.val = 0 + 1 * l.val; omega
  exact (congrArg _ e).trans (View.canon_cons_emb _ _ _ _)

theorem ldx (x : Vec Bits S12288x128 .fp8e5m2) :
    View.ld x (Rect.unit ![0, 0] ![12288, 128] inb_S12288x128_S12288x128_0_0) = x :=
  View.ld_unit_zero (S := S12288x128) (by funext a; fin_cases a <;> rfl) _ x

/-- The slabs by number: four outcomes of the words at even places, then four of those at odd places. -/
def pick (A B : Fin 4 → IVec S384x128 32) (p : Fin 8) : FVec Bits S1x1536x128 .fp8e5m2 :=
  match p with
  | 0 => slab (mixV 0 A)
  | 1 => slab (mixV 1 A)
  | 2 => slab (mixV 2 A)
  | 3 => slab (mixV 3 A)
  | 4 => slab (mixV 0 B)
  | 5 => slab (mixV 1 B)
  | 6 => slab (mixV 2 B)
  | 7 => slab (mixV 3 B)

/-- What the eight stores leave, slab by slab. -/
theorem slabs (a0 a1 a2 a3 b0 b1 b2 b3 : IVec S384x128 32) (p : Fin 8) (t : Fin 1536) (l : Fin 128) :
    View.canon (
      (⟨Rect.unit ![7, 0, 0] ![1, 1536, 128] inb_S8x1536x128_S1x1536x128_7_0_0, k0_pay4 (F := Bits) (k0_pay17 (F := Bits) b0 b1) (k0_pay19 (F := Bits) b2 b3)⟩ : View.Piece (Elt Bits) S8x1536x128 .fp8e5m2)
      :: (⟨Rect.unit ![6, 0, 0] ![1, 1536, 128] inb_S8x1536x128_S1x1536x128_6_0_0, k0_pay3 (F := Bits) (k0_pay16 (F := Bits) b0 b1) (k0_pay18 (F := Bits) b2 b3)⟩ : View.Piece (Elt Bits) S8x1536x128 .fp8e5m2)
      :: (⟨Rect.unit ![5, 0, 0] ![1, 1536, 128] inb_S8x1536x128_S1x1536x128_5_0_0, k0_pay2 (F := Bits) (k0_pay17 (F := Bits) b0 b1) (k0_pay19 (F := Bits) b2 b3)⟩ : View.Piece (Elt Bits) S8x1536x128 .fp8e5m2)
      :: (⟨Rect.unit ![4, 0, 0] ![1, 1536, 128] inb_S8x1536x128_S1x1536x128_4_0_0, k0_pay1 (F := Bits) (k0_pay18 (F := Bits) b2 b3) (k0_pay20 (F := Bits) b0 b1) 16#32⟩ : View.Piece (Elt Bits) S8x1536x128 .fp8e5m2)
      :: (⟨Rect.unit ![3, 0, 0] ![1, 1536, 128] inb_S8x1536x128_S1x1536x128_3_0_0, k0_pay15 (F := Bits) (k0_pay14 (F := Bits) a3 (k0_pay7 (F := Bits) a0 a1) (k0_pay9 (F := Bits) a2))⟩ : View.Piece (Elt Bits) S8x1536x128 .fp8e5m2)
      :: (⟨Rect.unit ![2, 0, 0] ![1, 1536, 128] inb_S8x1536x128_S1x1536x128_2_0_0, k0_pay13 (F := Bits) (k0_pay6 (F := Bits) a0 a1) (k0_pay8 (F := Bits) a2 a3)⟩ : View.Piece (Elt Bits) S8x1536x128 .fp8e5m2)
      :: (⟨Rect.unit ![1, 0, 0] ![1, 1536, 128] inb_S8x1536x128_S1x1536x128_1_0_0, k0_pay12 (F := Bits) a3 (k0_pay7 (F := Bits) a0 a1) (k0_pay9 (F := Bits) a2)⟩ : View.Piece (Elt Bits) S8x1536x128 .fp8e5m2)
      :: (⟨Rect.unit ![0, 0, 0] ![1, 1536, 128] inb_S8x1536x128_S1x1536x128_0_0_0, k0_pay11 (F := Bits) (k0_pay6 (F := Bits) a0 a1) (k0_pay8 (F := Bits) a2 a3)⟩ : View.Piece (Elt Bits) S8x1536x128 .fp8e5m2) :: []) (ix3 p t l)
      = pick ![a0, a1, a2, a3] ![b0, b1, b2, b3] p (ix3 0 t l) := by
  match p with
  | 0 => exact (skip 7 _ _ _ _ (by show 0 ≠ 7; decide)).trans ((skip 6 _ _ _ _ (by show 0 ≠ 6; decide)).trans ((skip 5 _ _ _ _ (by show 0 ≠ 5; decide)).trans ((skip 4 _ _ _ _ (by show 0 ≠ 4; decide)).trans ((skip 3 _ _ _ _ (by show 0 ≠ 3; decide)).trans ((skip 2 _ _ _ _ (by show 0 ≠ 2; decide)).trans ((skip 1 _ _ _ _ (by show 0 ≠ 1; decide)).trans ((hit 0 _ _ _ t l).trans (congrFun (slab0 ![a0, a1, a2, a3]) _))))))))
  | 1 => exact (skip 7 _ _ _ _ (by show 1 ≠ 7; decide)).trans ((skip 6 _ _ _ _ (by show 1 ≠ 6; decide)).trans ((skip 5 _ _ _ _ (by show 1 ≠ 5; decide)).trans ((skip 4 _ _ _ _ (by show 1 ≠ 4; decide)).trans ((skip 3 _ _ _ _ (by show 1 ≠ 3; decide)).trans ((skip 2 _ _ _ _ (by show 1 ≠ 2; decide)).trans ((hit 1 _ _ _ t l).trans (congrFun (slab1 ![a0, a1, a2, a3]) _)))))))
  | 2 => exact (skip 7 _ _ _ _ (by show 2 ≠ 7; decide)).trans ((skip 6 _ _ _ _ (by show 2 ≠ 6; decide)).trans ((skip 5 _ _ _ _ (by show 2 ≠ 5; decide)).trans ((skip 4 _ _ _ _ (by show 2 ≠ 4; decide)).trans ((skip 3 _ _ _ _ (by show 2 ≠ 3; decide)).trans ((hit 2 _ _ _ t l).trans (congrFun (slab2 ![a0, a1, a2, a3]) _))))))
  | 3 => exact (skip 7 _ _ _ _ (by show 3 ≠ 7; decide)).trans ((skip 6 _ _ _ _ (by show 3 ≠ 6; decide)).trans ((skip 5 _ _ _ _ (by show 3 ≠ 5; decide)).trans ((skip 4 _ _ _ _ (by show 3 ≠ 4; decide)).trans ((hit 3 _ _ _ t l).trans (congrFun (slab3 ![a0, a1, a2, a3]) _)))))
  | 4 => exact (skip 7 _ _ _ _ (by show 4 ≠ 7; decide)).trans ((skip 6 _ _ _ _ (by show 4 ≠ 6; decide)).trans ((skip 5 _ _ _ _ (by show 4 ≠ 5; decide)).trans ((hit 4 _ _ _ t l).trans (congrFun (slab4 ![b0, b1, b2, b3]) _))))
  | 5 => exact (skip 7 _ _ _ _ (by show 5 ≠ 7; decide)).trans ((skip 6 _ _ _ _ (by show 5 ≠ 6; decide)).trans ((hit 5 _ _ _ t l).trans (congrFun (slab5 ![b0, b1, b2, b3]) _)))
  | 6 => exact (skip 7 _ _ _ _ (by show 6 ≠ 7; decide)).trans ((hit 6 _ _ _ t l).trans (congrFun (slab6 ![b0, b1, b2, b3]) _))
  | 7 => exact (hit 7 _ _ _ t l).trans (congrFun (slab7 ![b0, b1, b2, b3]) _)

/-! ## The words read back -/

/-- Every eighth word of the scratch, from word `o` on. -/
theorem read_words (a3 : Memref sig .tc .vmem S3072x128 .i32) (W : S3072x128.Idx → Elt Bits .i32) (o : Nat)
    (h : _) (j : Fin 384) (l : Fin 128) (ho : o < 8) :
    a3.view.readCov [(⟨Rect.unit ![0, 0] ![3072, 128] inb_S3072x128_S3072x128_0_0, W⟩ : View.Piece (Elt Bits) S3072x128 .i32)]
        (⟨![o, 0], ![384, 128], ![8, 1], h⟩ : LoadRect S3072x128) (ix2 j l)
      = W (ix2 (⟨8 * j.val + o, by have := j.isLt; omega⟩ : Fin 3072) l) := by
  rw [View.readCov_eq_canon', View.canon_unit_zero (S := S3072x128) (by funext a; fin_cases a <;> rfl)]
  refine congrArg W ?_
  funext a; apply Fin.ext
  match a with
  | ⟨0, _⟩ => show o + 8 * j.val = 8 * j.val + o; omega
  | ⟨1, _⟩ => show 0 + 1 * l.val = l.val; omega

/-- A slab of the words read back is the block's rows. -/
theorem slab_rows (x : Vec Bits S12288x128 .fp8e5m2) (a3 : Memref sig .tc .vmem S3072x128 .i32) (o : Fin 2) (h0 h1 h2 h3) (q : Fin 4) (t : Fin 1536) (l : Fin 128) :
    slab (mixV q ![
        a3.view.readCov [(⟨Rect.unit ![0, 0] ![3072, 128] inb_S3072x128_S3072x128_0_0, k0_pay5 (F := Bits) x⟩ : View.Piece (Elt Bits) S3072x128 .i32)]
          (⟨![o.val, 0], ![384, 128], ![8, 1], h0⟩ : LoadRect S3072x128),
        a3.view.readCov [(⟨Rect.unit ![0, 0] ![3072, 128] inb_S3072x128_S3072x128_0_0, k0_pay5 (F := Bits) x⟩ : View.Piece (Elt Bits) S3072x128 .i32)]
          (⟨![o.val + 2, 0], ![384, 128], ![8, 1], h1⟩ : LoadRect S3072x128),
        a3.view.readCov [(⟨Rect.unit ![0, 0] ![3072, 128] inb_S3072x128_S3072x128_0_0, k0_pay5 (F := Bits) x⟩ : View.Piece (Elt Bits) S3072x128 .i32)]
          (⟨![o.val + 4, 0], ![384, 128], ![8, 1], h2⟩ : LoadRect S3072x128),
        a3.view.readCov [(⟨Rect.unit ![0, 0] ![3072, 128] inb_S3072x128_S3072x128_0_0, k0_pay5 (F := Bits) x⟩ : View.Piece (Elt Bits) S3072x128 .i32)]
          (⟨![o.val + 6, 0], ![384, 128], ![8, 1], h3⟩ : LoadRect S3072x128)]) (ix3 0 t l)
      = x (ix2 (⟨8 * t.val + (4 * o.val + q.val), by have := t.isLt; have := o.isLt; have := q.isLt; omega⟩ : Fin 12288) l) := by
  obtain ⟨j, r, ht⟩ : ∃ (j : Fin 384) (r : Fin 4), t = ⟨4 * j.val + r.val, by have := j.isLt; have := r.isLt; omega⟩ :=
    ⟨⟨t.val / 4, by have := t.isLt; omega⟩, ⟨t.val % 4, by omega⟩, Fin.ext (by show t.val = 4 * (t.val / 4) + t.val % 4; omega)⟩
  subst ht
  have ho := o.isLt
  have hj := j.isLt
  have hr := r.isLt
  refine (slab_apply _ q j r l).trans ?_
  refine Eq.trans (b := byte (k0_pay5 (F := Bits) x (ix2 (⟨8 * j.val + (o.val + 2 * r.val), by omega⟩ : Fin 3072) l)) q) ?_ ?_
  · refine congrArg (byte · q) ?_
    match r with
    | ⟨0, _⟩ => exact read_words a3 _ o.val h0 j l (by omega)
    | ⟨1, _⟩ => exact read_words a3 _ (o.val + 2) h1 j l (by omega)
    | ⟨2, _⟩ => exact read_words a3 _ (o.val + 4) h2 j l (by omega)
    | ⟨3, _⟩ => exact read_words a3 _ (o.val + 6) h3 j l (by omega)
  · refine (words_apply x _ l q).trans (congrArg x ?_)
    refine congrArg (fun z : Fin 12288 => (ix2 z l : S12288x128.Idx)) (Fin.ext ?_)
    show 4 * (8 * j.val + (o.val + 2 * r.val)) + q.val = 8 * (4 * j.val + r.val) + (4 * o.val + q.val)
    omega

/-- A point's output block: slab `p`, row `t` is row `8 t + p` of its input block. -/
theorem out_A (c : Dev nD) (i : grid0.Coords) (a1 h1 a2 h2 a3 h3 x0) (p : Fin 8) (t : Fin 1536) (l : Fin 128) :
    out0_A_1 (F := Bits) c i a1 h1 a2 h2 a3 h3 x0 (ix3 p t l)
      = x0 (ix2 (⟨8 * t.val + p.val, by have := t.isLt; have := p.isLt; omega⟩ : Fin 12288) l) := by
  unfold out0_A_1
  rw [View.read_writes_eq_canon _ _ _ (cover0_A_1 c i a1 h1 a2 h2 a3 h3 x0)]
  unfold kernelRun0_A
  dsimp only
  sl_unfold_words
  simp only [View.readAt_eq_ld, h1.read_unread, ldx]
  refine (slabs _ _ _ _ _ _ _ _ p t l).trans ?_
  match p with
  | 0 => exact slab_rows x0 a3 0 _ _ _ _ 0 t l
  | 1 => exact slab_rows x0 a3 0 _ _ _ _ 1 t l
  | 2 => exact slab_rows x0 a3 0 _ _ _ _ 2 t l
  | 3 => exact slab_rows x0 a3 0 _ _ _ _ 3 t l
  | 4 => exact slab_rows x0 a3 1 _ _ _ _ 0 t l
  | 5 => exact slab_rows x0 a3 1 _ _ _ _ 1 t l
  | 6 => exact slab_rows x0 a3 1 _ _ _ _ 2 t l
  | 7 => exact slab_rows x0 a3 1 _ _ _ _ 3 t l

end Cert.Split.Hand
-- ==== Proof.SplitValue.lean ====
/-
  The phase kernel's run: its result at phase `p`, row `t`, column `o` is the gradient's row `8 t + p`, the two
  sequences' rows counted on.
-/
module
public import proofs.«01_k».proof.Proof.SplitStep
@[expose] public section
set_option maxRecDepth 16384
noncomputable section
open Idealize.ShloMosaic Idealize.ShloMosaic.TcCoe Idealize.SL.Sem
namespace Cert.Split.Hand
open Cert.Split Cert.Split.Gen

variable (m : (ℓ : Loc nD τ sig) → Buf (Elt Bits) ℓ) (ρ : Dev nD → PrngReg)

/-- The host's reshape of the gradient. -/
theorem V_v0 (c : Dev nD) : V m c main_v0 = shapeCast S12288x1792 (m ((c : Thread nD τ).loc main_arg0)) shapeCasts_S2x6144x1792_S12288x1792 := by
  unfold V; after_results; rfl

/-- Row `8 t + p` of the two sequences' rows, `6144` to a sequence. -/
def rowOf (p : Fin 8) (t : Fin 1536) (o : Fin 1792) : S2x6144x1792.Idx :=
  ix3 (⟨(8 * t.val + p.val) / 6144, by have := t.isLt; have := p.isLt; omega⟩ : Fin 2)
    (⟨(8 * t.val + p.val) % 6144, Nat.mod_lt _ (by decide)⟩ : Fin 6144) o

/-- The closed form of the result. -/
def res (x : S2x6144x1792.Idx → Bits .fp8e5m2) : S8x1536x1792.Idx → Bits .fp8e5m2 := fun y => x (rowOf (y 0) (y 1) (y 2))

/-- The windows' block indices over the grid. -/
theorem idx0 : ∀ t : Fin cfg0.N, win0_0.index t = ![0, t.val] ∧ win0_1.index t = ![0, 0, t.val] :=
  (by decide +kernel : ∀ t : Fin grid0.N, _)

/-- The column that column `l` of a point's block is. -/
abbrev col (t : Fin cfg0.N) (l : Fin 128) : Fin 1792 :=
  ⟨128 * t.val + l.val, by have h := lt_of_lt_of_eq t.isLt (show cfg0.N = 14 from N_0); have := l.isLt; omega⟩

theorem iblk_0 (c : Dev nD) (s : Fin cfg0.N) (p : Fin 8) (t : Fin 1536) (l : Fin 128) :
    iblk m c 0 s (ix2 (⟨8 * t.val + p.val, by have := t.isLt; have := p.isLt; omega⟩ : Fin 12288) l)
      = m ((c : Thread nD τ).loc main_arg0) (rowOf p t (col s l)) := by
  obtain ⟨e, -⟩ := idx0 s
  have e0 := congrFun e 0; have e1 := congrFun e 1
  show V m c main_v0 (((cfg0.win 0).blk s).view.emb (ix2 (⟨8 * t.val + p.val, by have := t.isLt; have := p.isLt; omega⟩ : Fin 12288) l)) = _
  have hx : ((cfg0.win 0).blk s).view.emb (ix2 (⟨8 * t.val + p.val, by have := t.isLt; have := p.isLt; omega⟩ : Fin 12288) l)
      = (ix2 (⟨8 * t.val + p.val, by have := t.isLt; have := p.isLt; omega⟩ : Fin 12288) (col s l) : S12288x1792.Idx) := by
    refine funext fun a => Fin.ext ?_
    match a with
    | ⟨0, _⟩ => show win0_0.index s 0 * 12288 + 1 * (8 * t.val + p.val) = 8 * t.val + p.val; rw [e0]; show 0 * 12288 + 1 * (8 * t.val + p.val) = _; omega
    | ⟨1, _⟩ => show win0_0.index s 1 * 128 + 1 * l.val = 128 * s.val + l.val; rw [e1]; show s.val * 128 + 1 * l.val = _; omega
  rw [hx, V_v0]
  refine shapeCast_apply _ shapeCasts_S2x6144x1792_S12288x1792 _ _ ?_
  have := t.isLt; have := p.isLt
  rewrite [Shape.rowMajor_val_three, Shape.rowMajor_val_two]
  show ((8 * t.val + p.val) / 6144 * 6144 + (8 * t.val + p.val) % 6144) * 1792 + (128 * s.val + l.val) = (8 * t.val + p.val) * 1792 + (128 * s.val + l.val)
  omega

theorem emb_1 (s : Fin cfg0.N) (p : Fin 8) (t : Fin 1536) (l : Fin 128) :
    ((cfg0.win 1).blk s).view.emb (ix3 p t l) = (ix3 p t (col s l) : S8x1536x1792.Idx) := by
  obtain ⟨-, e⟩ := idx0 s
  have e0 := congrFun e 0; have e1 := congrFun e 1; have e2 := congrFun e 2
  refine funext fun a => Fin.ext ?_
  match a with
  | ⟨0, _⟩ => show win0_1.index s 0 * 8 + 1 * p.val = p.val; rw [e0]; show 0 * 8 + 1 * p.val = _; omega
  | ⟨1, _⟩ => show win0_1.index s 1 * 1536 + 1 * t.val = t.val; rw [e1]; show 0 * 1536 + 1 * t.val = _; omega
  | ⟨2, _⟩ => show win0_1.index s 2 * 128 + 1 * l.val = 128 * s.val + l.val; rw [e2]; show s.val * 128 + 1 * l.val = _; omega

theorem exists_arr (y : S8x1536x1792.Idx) : ∃ (p : Fin 8) (t : Fin 1536) (o : Fin 1792), y = ix3 p t o :=
  ⟨y 0, y 1, y 2, by funext a; fin_cases a <;> rfl⟩

/-- A point's block, at an index. -/
theorem outs_res (c : Dev nD) (s : Fin cfg0.N) (p : Fin 8) (t : Fin 1536) (l : Fin 128) :
    outsAt0 m c s (ix3 p t l) = res (m ((c : Thread nD τ).loc main_arg0)) (ix3 p t (col s l)) := by
  unfold outsAt0
  exact (out_A c _ _ _ _ _ _ _ _ p t l).trans (iblk_0 m c s p t l)

/-- The array the call leaves. -/
theorem arr (c : Dev nD) : (dats m 0 c).arrAt 1 cfg0.N = res (m ((c : Thread nD τ).loc main_arg0)) := by
  refine (dats m 0 c).arrAt_eq_of_cover 1 (res (m ((c : Thread nD τ).loc main_arg0))) ?_ ?_
  · intro s _
    show (cfg0.win 1).cut _ ((dats m 0 c).after 1 s) = _
    rw [after0_1]
    funext y
    show outsAt0 m c s y = res (m ((c : Thread nD τ).loc main_arg0)) (((cfg0.win 1).blk s).view.emb y)
    obtain ⟨p, t, l, hy⟩ := exists_ix3 y
    rw [hy]
    exact (outs_res m c s p t l).trans (congrArg (res (m ((c : Thread nD τ).loc main_arg0))) (emb_1 s p t l).symm)
  · intro i
    obtain ⟨p, t, o, hi⟩ := exists_arr i
    have ho := o.isLt
    have hs : o.val / 128 < cfg0.N := by rw [show cfg0.N = 14 from N_0]; omega
    refine ⟨⟨o.val / 128, hs⟩, flush0_1 _, ?_⟩
    have e := emb_1 ⟨o.val / 128, hs⟩ p t ⟨o.val % 128, Nat.mod_lt _ (by decide)⟩
    have hc : col ⟨o.val / 128, hs⟩ ⟨o.val % 128, Nat.mod_lt _ (by decide)⟩ = o :=
      Fin.ext (by show 128 * (o.val / 128) + o.val % 128 = o.val; omega)
    rw [hc] at e
    exact (e.trans hi.symm) ▸ ((cfg0.win 1).blk ⟨o.val / 128, hs⟩).view.emb_mem_set _

/-- The kernel's run with its result in closed form. -/
theorem run_res : θ_run defs (onTc (τ := τ) (main (F := Bits))) ⟨m, fun _ => 0, ρ⟩ fun r => ∀ c : Dev nD,
      r.2.mem ((c : Thread nD τ).loc main_v1) = res (m ((c : Thread nD τ).loc main_arg0))
      ∧ r.2.mem ((c : Thread nD τ).loc main_arg0) = m ((c : Thread nD τ).loc main_arg0) :=
  (θ_run defs _ _).mono (fun _ h c => ⟨(h c).1.trans (arr m c), (h c).2⟩) (Cert.Split.Value.run_blocks m ρ)

end Cert.Split.Hand
-- ==== Proof.SplitClaims.lean ====
/-
  The phase kernel's claims: it and its reference run, and they end with the same codes, bit for bit.
-/
module
public import proofs.«01_k».proof.Defs
public import proofs.«01_k».proof.Proof.SplitValue
public import proofs.«01_k».proof.Proof.Gen.Split.Frame
public import proofs.«01_k».proof.Proof.Gen.SplitRef.Run
public import Idealize.ShloMosaic.Lib.Quiescent
public import Idealize.ShloMosaic.Lib.Pointwise
@[expose] public section
noncomputable section
open Idealize.ShloMosaic Idealize.ShloMosaic.TcCoe Idealize.SL.Sem
namespace Cert.SplitClaims

instance : Cert.Split.Facts := Cert.Split.Gen.facts
instance : Cert.SplitRef.Facts := Cert.SplitRef.Gen.facts

theorem frame_Split : Cert.quiescent_Split := fun m ρ _ => Cert.Split.Gen.frame m ρ

/-- The reference declares no semaphore. -/
theorem frame_SplitRef : Cert.quiescent_SplitRef := fun m ρ _ =>
  (θ_run Cert.SplitRef.defs _ _).mono (fun r h => ⟨fun c => (h c).2,
      Idealize.ShloMosaic.sem_eq_zero_of_no_sems (by decide) r.2⟩)
    (Cert.SplitRef.Value.run (F := Bits) m ρ)

/-- The reference's reshape and transposition, in the closed form. -/
theorem ref_res (x : Cert.Split.S2x6144x1792.Idx → Bits .fp8e5m2) :
    (transpose Cert.SplitRef.S8x1536x1792 [1, 0, 2]
        (shapeCast Cert.SplitRef.S1536x8x1792 x Cert.SplitRef.Gen.facts.shapeCasts_S2x6144x1792_S1536x8x1792)
        Cert.SplitRef.Gen.facts.transposes_S1536x8x1792_S8x1536x1792_1_0_2 : Cert.SplitRef.S8x1536x1792.Idx → Bits .fp8e5m2)
      = Cert.Split.Hand.res x := by
  funext y
  obtain ⟨p, t, o, hy⟩ := Cert.Split.Hand.exists_arr y
  subst hy
  refine Eq.trans (b := shapeCast Cert.SplitRef.S1536x8x1792 x Cert.SplitRef.Gen.facts.shapeCasts_S2x6144x1792_S1536x8x1792 (ix3 t p o)) ?_ ?_
  · refine congrArg (shapeCast _ _ _) ?_
    funext a; fin_cases a <;> rfl
  · refine shapeCast_apply _ Cert.SplitRef.Gen.facts.shapeCasts_S2x6144x1792_S1536x8x1792 _ _ ?_
    have := t.isLt; have := p.isLt
    rewrite [Shape.rowMajor_val_three, Shape.rowMajor_val_three]
    show ((8 * t.val + p.val) / 6144 * 6144 + (8 * t.val + p.val) % 6144) * 1792 + o.val = (t.val * 8 + p.val) * 1792 + o.val
    omega

/-- Both sides end with `res` of the argument, on which the two memories agree. -/
theorem bitexact : Cert.bitexact_Split_SplitRef := by
  intro m ρ m' ρ' _ hagree
  refine ⟨fun c => Cert.Split.Hand.res (m ((c.tc : Thread Cert.Split.nD Cert.Split.τ).loc Cert.Split.main_arg0)), Cert.Split.Hand.run_res m ρ, ?_⟩
  refine (θ_run Cert.SplitRef.defs _ _).mono (fun r h c => ⟨?_, (h c).2⟩) (Cert.SplitRef.Value.run m' ρ')
  exact (h c).1.trans ((ref_res _).trans (congrArg Cert.Split.Hand.res (hagree c)))

end Cert.SplitClaims
-- ==== Proof.DxStep.lean ====
/-
  What ONE grid point of the dx kernel leaves, at the ideal instance and at an index: the two [1536,512] slabs of the
  scratch gain `Σ o, (g[t,o] · ws[o]) · w[j,c,o]`, and the last point of a run writes slab 0 scaled by its rows plus
  slab 1 scaled, moved up one row, and cut at the end of each sequence.
-/
module
public import proofs.«01_k».proof.Proof.Gen.DxIdeal.Value
public import Idealize.ShloMosaic.Lib.Pipeline.Value
public import Idealize.ShloMosaic.Lib.ValueIdx
public import Idealize.ShloMosaic.Lib.Pointwise
public import Idealize.ShloMosaic.Lib.Tactic
@[expose] public section
set_option maxRecDepth 16384
noncomputable section
open Idealize.ShloMosaic Idealize.ShloMosaic.TcCoe Idealize.SL.Sem
open Idealize.ShloMosaic.ValueIdx (addf_apply mulf_apply contrEquiv1)
namespace Cert.DxIdeal.Hand
open Cert.DxIdeal Cert.DxIdeal.Gen

/-! ## The body's values at an index -/

/-- The product of a [1536,1792] and a [512,1792] matrix over their second axes, at an index. -/
theorem dot_apply (a : FVec Ideal S1536x1792 .bf16) (b : FVec Ideal S512x1792 .fp8e4m3) (acc : FVec Ideal S1536x512 .f32)
    (t : Fin 1536) (c : Fin 512) :
    matmul dot_S1536x1792_S512x1792_S1536x512_1_1_0_0_n_n none a b acc (ix2 t c)
      = acc (ix2 t c) + ∑ o : Fin 1792, a (ix2 t o) * b (ix2 c o) := by
  show acc (ix2 t c) + ∑ k : dot_S1536x1792_S512x1792_S1536x512_1_1_0_0_n_n.contr.Idx, _ = _
  congr 1
  rw [← (contrEquiv1 dot_S1536x1792_S512x1792_S1536x512_1_1_0_0_n_n 1792 rfl rfl).symm.sum_comp]
  refine Finset.sum_congr rfl fun o _ => ?_
  congr 2
  · funext d; fin_cases d <;> rfl
  · funext d; fin_cases d <;> rfl

/-- The scaled codes of a point. -/
theorem pay4_apply (v3 : Vec Ideal S1x1536x1792 .fp8e5m2) (v6 : Vec Ideal S1x1792 .f32) (t : Fin 1536) (o : Fin 1792) :
    k0_pay4 v3 v6 (ix2 t o) = v3 (ix3 0 t o) * v6 (ix2 0 o) := by
  pointwise [k0_pay4]

/-- A slab read back, plus the point's product. -/
theorem pay6_apply (v3 : Vec Ideal S1x1536x1792 .fp8e5m2) (v6 : Vec Ideal S1x1792 .f32) (v20 : Vec Ideal S1x1536x512 .f32)
    (v22 : Vec Ideal S1x1x512x1792 .fp8e4m3) (t : Fin 1536) (c : Fin 512) :
    k0_pay6 v3 v6 v20 v22 (ix2 t c)
      = v20 (ix3 0 t c) + ∑ o : Fin 1792, (v3 (ix3 0 t o) * v6 (ix2 0 o)) * v22 (ix4 0 0 c o) := by
  unfold k0_pay6
  rw [addf_apply, dot_apply]
  simp only [pay4_apply]
  pointwise

theorem pay1_apply (v : FVec Ideal S1536x512 .f32) (t : Fin 1536) (c : Fin 512) : k0_pay1 v (ix3 0 t c) = v (ix2 t c) := by
  pointwise [k0_pay1]

theorem pay5_eq (v3 : Vec Ideal S1x1536x1792 .fp8e5m2) (v6 : Vec Ideal S1x1792 .f32) (v20 : Vec Ideal S1x1536x512 .f32)
    (v22 : Vec Ideal S1x1x512x1792 .fp8e4m3) : k0_pay5 v3 v6 v20 v22 = k0_pay1 (k0_pay6 v3 v6 v20 v22) := rfl

theorem pay3_apply (y : S2x1536x512.Idx) : k0_pay3 (F := Ideal) y = 0 := by
  pointwise [k0_pay3]

/-- The row number's remainder by 768, compared with 767. -/
theorem last_word : ∀ t : Fin 1536,
    IntOp.cmpi .eq (IntOp.remsi .vector (BitVec.ofNat 32 t.val) 768#32) 767#32 = if t.val % 768 = 767 then 1#1 else 0#1 := by
  decide +kernel

/-- The row after `t`, around the end. -/
abbrev nxt (t : Fin 1536) : Fin 1536 := ⟨(t.val + 1536 - 1535) % 1536, Nat.mod_lt _ (by decide)⟩

theorem pay2_apply (s : Vec Ideal S1536x1 .f32) (z1 z0 : Vec Ideal S1x1536x512 .f32) (t : Fin 1536) (c : Fin 512) :
    k0_pay2 s z1 z0 (ix2 t c)
      = z0 (ix3 0 t c) * s (ix2 t 0)
        + if t.val % 768 = 767 then 0 else z1 (ix3 0 (nxt t) c) * s (ix2 (nxt t) 0) := by
  pointwise [k0_pay2]
  rw [last_word]
  split <;> rfl

/-! ## The scratch's two slabs -/

/-- An index of the scratch is its three coordinates. -/
theorem exists_ix3 (y : S2x1536x512.Idx) : ∃ (j : Fin 2) (t : Fin 1536) (d : Fin 512), y = ix3 j t d :=
  ⟨y 0, y 1, y 2, by funext a; fin_cases a <;> rfl⟩

/-- Slab 1 does not hold the indices of slab 0. -/
theorem not_slab1 (y : S2x1536x512.Idx) (h : (y 0).val = 0) :
    y ∉ (Rect.unit (s := S2x1536x512) ![1, 0, 0] ![1, 1536, 512] inb_S2x1536x512_S1x1536x512_1_0_0).set := by
  rw [Rect.mem_set_unit]
  intro hm
  have h1 : 1 ≤ (y 0).val := (hm 0).1
  omega

/-- Slab 0 does not hold the indices of slab 1. -/
theorem not_slab0 (y : S2x1536x512.Idx) (h : (y 0).val = 1) :
    y ∉ (Rect.unit (s := S2x1536x512) ![0, 0, 0] ![1, 1536, 512] inb_S2x1536x512_S1x1536x512_0_0_0).set := by
  rw [Rect.mem_set_unit]
  intro hm
  have h1 : (y 0).val < 0 + 1 := (hm 0).2
  omega

/-- A store into slab 1 leaves slab 0 as it was. -/
theorem slab_skip (W1 : S1x1536x512.Idx → Elt Ideal .f32) (L : List (View.Piece (Elt Ideal) S2x1536x512 .f32)) (y : S2x1536x512.Idx) (h : (y 0).val = 0) :
    View.canon ((⟨Rect.unit ![1, 0, 0] ![1, 1536, 512] inb_S2x1536x512_S1x1536x512_1_0_0, W1⟩ : View.Piece (Elt Ideal) S2x1536x512 .f32) :: L) y
      = View.canon L y := by
  rw [View.canon_cons_of_not_mem]
  exact not_slab1 y h

/-- What the two slab stores leave, in slab 0, whatever was stored before. -/
theorem slab_canon0 (W1 W0 : S1x1536x512.Idx → Elt Ideal .f32) (L : List (View.Piece (Elt Ideal) S2x1536x512 .f32)) (t : Fin 1536) (d : Fin 512) :
    View.canon ((⟨Rect.unit ![1, 0, 0] ![1, 1536, 512] inb_S2x1536x512_S1x1536x512_1_0_0, W1⟩ : View.Piece (Elt Ideal) S2x1536x512 .f32)
      :: ⟨Rect.unit ![0, 0, 0] ![1, 1536, 512] inb_S2x1536x512_S1x1536x512_0_0_0, W0⟩ :: L) (ix3 0 t d) = W0 (ix3 0 t d) := by
  refine (slab_skip W1 _ (ix3 0 t d) rfl).trans ?_
  have e : (ix3 0 t d : S2x1536x512.Idx)
      = (Rect.unit (s := S2x1536x512) ![0, 0, 0] ![1, 1536, 512] inb_S2x1536x512_S1x1536x512_0_0_0).emb (ix3 0 t d) := by
    funext a; apply Fin.ext
    match a with
    | ⟨0, _⟩ => rfl
    | ⟨1, _⟩ => show t.val = 0 + 1 * t.val; omega
    | ⟨2, _⟩ => show d.val = 0 + 1 * d.val; omega
  exact (congrArg _ e).trans (View.canon_cons_emb _ _ _ _)

/-- What the two slab stores leave, in slab 1. -/
theorem slab_canon1 (W1 W0 : S1x1536x512.Idx → Elt Ideal .f32) (L : List (View.Piece (Elt Ideal) S2x1536x512 .f32)) (t : Fin 1536) (d : Fin 512) :
    View.canon ((⟨Rect.unit ![1, 0, 0] ![1, 1536, 512] inb_S2x1536x512_S1x1536x512_1_0_0, W1⟩ : View.Piece (Elt Ideal) S2x1536x512 .f32)
      :: ⟨Rect.unit ![0, 0, 0] ![1, 1536, 512] inb_S2x1536x512_S1x1536x512_0_0_0, W0⟩ :: L) (ix3 1 t d) = W1 (ix3 0 t d) := by
  have e : (ix3 1 t d : S2x1536x512.Idx)
      = (Rect.unit (s := S2x1536x512) ![1, 0, 0] ![1, 1536, 512] inb_S2x1536x512_S1x1536x512_1_0_0).emb (ix3 0 t d) := by
    funext a; apply Fin.ext
    match a with
    | ⟨0, _⟩ => rfl
    | ⟨1, _⟩ => show t.val = 0 + 1 * t.val; omega
    | ⟨2, _⟩ => show d.val = 0 + 1 * d.val; omega
  exact (congrArg _ e).trans (View.canon_cons_emb _ _ _ _)

/-- Slab 0 of an array, at an index. -/
theorem ld0 (xs : Vec Ideal S2x1536x512 .f32) (t : Fin 1536) (c : Fin 512) :
    View.ld xs (Rect.unit ![0, 0, 0] ![1, 1536, 512] inb_S2x1536x512_S1x1536x512_0_0_0) (ix3 0 t c) = xs (ix3 0 t c) := by
  pointwise
/-- Slab 1 of an array, at an index. -/
theorem ld1 (xs : Vec Ideal S2x1536x512 .f32) (t : Fin 1536) (c : Fin 512) :
    View.ld xs (Rect.unit ![1, 0, 0] ![1, 1536, 512] inb_S2x1536x512_S1x1536x512_1_0_0) (ix3 0 t c) = xs (ix3 1 t c) := by
  pointwise
theorem ldw0 (x : Vec Ideal S2x1x512x1792 .fp8e4m3) (c : Fin 512) (o : Fin 1792) :
    View.ld x (Rect.unit ![0, 0, 0, 0] ![1, 1, 512, 1792] inb_S2x1x512x1792_S1x1x512x1792_0_0_0_0) (ix4 0 0 c o) = x (ix4 0 0 c o) := by
  pointwise
theorem ldw1 (x : Vec Ideal S2x1x512x1792 .fp8e4m3) (c : Fin 512) (o : Fin 1792) :
    View.ld x (Rect.unit ![1, 0, 0, 0] ![1, 1, 512, 1792] inb_S2x1x512x1792_S1x1x512x1792_1_0_0_0) (ix4 0 0 c o) = x (ix4 1 0 c o) := by
  pointwise
theorem ldg (x : Vec Ideal S1x1536x1792 .fp8e5m2) :
    View.ld x (Rect.unit ![0, 0, 0] ![1, 1536, 1792] inb_S1x1536x1792_S1x1536x1792_0_0_0) = x :=
  View.ld_unit_zero (S := S1x1536x1792) (by funext a; fin_cases a <;> rfl) _ x
theorem ldws (x : Vec Ideal S1x1792 .f32) :
    View.ld x (Rect.unit ![0, 0] ![1, 1792] inb_S1x1792_S1x1792_0_0) = x :=
  View.ld_unit_zero (S := S1x1792) (by funext a; fin_cases a <;> rfl) _ x
theorem lds (x : Vec Ideal S1536x1 .f32) :
    View.ld x (Rect.unit ![0, 0] ![1536, 1] inb_S1536x1_S1536x1_0_0) = x :=
  View.ld_unit_zero (S := S1536x1) (by funext a; fin_cases a <;> rfl) _ x

/-! ## A point's step -/

/-- One point's step of the scratch: what it held plus the point's products. -/
def stp (x0 : Vec Ideal S1x1536x1792 .fp8e5m2) (x1 : Vec Ideal S2x1x512x1792 .fp8e4m3) (x2 : Vec Ideal S1x1792 .f32)
    (xs : Vec Ideal S2x1536x512 .f32) : Vec Ideal S2x1536x512 .f32 := fun y =>
  xs y + ∑ o : Fin 1792, (x0 (ix3 0 (y 1) o) * x2 (ix2 0 o)) * x1 (ix4 (y 0) 0 (y 2) o)

/-- The two slabs a point stores, over slabs read back as `z0`, `z1`, are the step of `xs` when those are its slabs. -/
theorem slabs_eq (x0 : Vec Ideal S1x1536x1792 .fp8e5m2) (x1 : Vec Ideal S2x1x512x1792 .fp8e4m3) (x2 : Vec Ideal S1x1792 .f32)
    (xs : Vec Ideal S2x1536x512 .f32) (z0 z1 : Vec Ideal S1x1536x512 .f32)
    (h0 : ∀ t c, z0 (ix3 0 t c) = xs (ix3 0 t c)) (h1 : ∀ t c, z1 (ix3 0 t c) = xs (ix3 1 t c))
    (L : List (View.Piece (Elt Ideal) S2x1536x512 .f32)) :
    View.canon ((⟨Rect.unit ![1, 0, 0] ![1, 1536, 512] inb_S2x1536x512_S1x1536x512_1_0_0,
        k0_pay1 (k0_pay6 x0 x2 z1 (View.ld x1 (Rect.unit ![1, 0, 0, 0] ![1, 1, 512, 1792] inb_S2x1x512x1792_S1x1x512x1792_1_0_0_0)))⟩ : View.Piece (Elt Ideal) S2x1536x512 .f32)
      :: ⟨Rect.unit ![0, 0, 0] ![1, 1536, 512] inb_S2x1536x512_S1x1536x512_0_0_0,
        k0_pay5 x0 x2 z0 (View.ld x1 (Rect.unit ![0, 0, 0, 0] ![1, 1, 512, 1792] inb_S2x1x512x1792_S1x1x512x1792_0_0_0_0))⟩ :: L)
      = stp x0 x1 x2 xs := by
  funext y
  obtain ⟨j, t, d, rfl⟩ := exists_ix3 y
  fin_cases j
  · refine (slab_canon0 _ _ _ t d).trans ?_
    rw [pay5_eq, pay1_apply, pay6_apply, h0]
    exact congrArg (_ + ·) (Finset.sum_congr rfl fun o _ => congrArg (_ * ·) (ldw0 x1 d o))
  · refine (slab_canon1 _ _ _ t d).trans ?_
    rw [pay1_apply, pay6_apply, h1]
    exact congrArg (_ + ·) (Finset.sum_congr rfl fun o _ => congrArg (_ * ·) (ldw1 x1 d o))

/-- A point in the middle of a run steps the scratch. -/
theorem sout_B (c : Dev nD) (i : grid0.Coords) (a2 h2 a3 h3 a4 h4 a5 h5 a6 h6 a7 h7 hc0 hc1 x0 x1 x2 x3 xs) :
    sout0_B_0 (F := Ideal) c i a2 h2 a3 h3 a4 h4 a5 h5 a6 h6 a7 h7 hc0 hc1 x0 x1 x2 x3 xs = stp x0 x1 x2 xs := by
  unfold sout0_B_0
  rw [View.read_writes_eq_canon _ _ _ (scover0_B_0 c i a2 h2 a3 h3 a4 h4 a5 h5 a6 h6 a7 h7 hc0 hc1 x0 x1 x2 x3 xs)]
  unfold kernelRun0_B
  dsimp only
  sl_unfold_words
  simp only [View.readAt_eq_ld, h2.read_unread, h3.read_unread, h4.read_unread, h7.read_unread, ldg, ldws]
  exact slabs_eq x0 x1 x2 xs _ _ (ld0 xs) (ld1 xs) _

/-- The first point of a run steps the zero scratch. -/
theorem sout_A (c : Dev nD) (i : grid0.Coords) (a2 h2 a3 h3 a4 h4 a5 h5 a6 h6 a7 h7 hc0 hc1 x0 x1 x2 x3) :
    sout0_A_0 (F := Ideal) c i a2 h2 a3 h3 a4 h4 a5 h5 a6 h6 a7 h7 hc0 hc1 x0 x1 x2 x3 = stp x0 x1 x2 (fun _ => 0) := by
  unfold sout0_A_0
  rw [View.read_writes_eq_canon _ _ _ (scover0_A_0 c i a2 h2 a3 h3 a4 h4 a5 h5 a6 h6 a7 h7 hc0 hc1 x0 x1 x2 x3)]
  unfold kernelRun0_A
  dsimp only
  sl_unfold_words
  simp only [View.readAt_eq_ld, h2.read_unread, h3.read_unread, h4.read_unread, h7.read_unread, ldg, ldws]
  refine slabs_eq x0 x1 x2 (fun _ => 0) _ _ (fun t c => ?_) (fun t c => ?_) _
  · rw [View.readCov_eq_canon', View.canon_unit_zero (S := S2x1536x512) (by funext a; fin_cases a <;> rfl)]
    exact pay3_apply _
  · rw [View.readCov_eq_canon']
    have hn := not_slab0 (ix3 1 t c) rfl
    have e : (Rect.unit (s := S2x1536x512) ![1, 0, 0] ![1, 1536, 512] inb_S2x1536x512_S1x1536x512_1_0_0).idx (ix3 0 t c) = ix3 1 t c := by
      funext a; apply Fin.ext
      match a with
      | ⟨0, _⟩ => rfl
      | ⟨1, _⟩ => show 0 + 1 * t.val = t.val; omega
      | ⟨2, _⟩ => show 0 + 1 * c.val = c.val; omega
    refine (congrArg _ e).trans ((View.canon_cons_of_not_mem _ _ hn).trans ?_)
    rw [View.canon_unit_zero (S := S2x1536x512) (by funext a; fin_cases a <;> rfl)]
    exact pay3_apply _

/-- The last point of a run writes the stepped scratch's slab 0, scaled, plus slab 1, scaled and moved up a row. -/
theorem out_C (c : Dev nD) (i : grid0.Coords) (a2 h2 a3 h3 a4 h4 a5 h5 a6 h6 a7 h7 hc0 hc1 x0 x1 x2 x3 xs) (t : Fin 1536) (d : Fin 512) :
    out0_C_4 (F := Ideal) c i a2 h2 a3 h3 a4 h4 a5 h5 a6 h6 a7 h7 hc0 hc1 x0 x1 x2 x3 xs (ix2 t d)
      = stp x0 x1 x2 xs (ix3 0 t d) * x3 (ix2 t 0)
        + if t.val % 768 = 767 then 0 else stp x0 x1 x2 xs (ix3 1 (nxt t) d) * x3 (ix2 (nxt t) 0) := by
  unfold out0_C_4
  rw [View.read_writes_eq_canon _ _ _ (cover0_C_4 c i a2 h2 a3 h3 a4 h4 a5 h5 a6 h6 a7 h7 hc0 hc1 x0 x1 x2 x3 xs)]
  unfold kernelRun0_C
  dsimp only
  sl_unfold_words
  simp only [View.readAt_eq_ld, h2.read_unread, h3.read_unread, h4.read_unread, h5.read_unread, h7.read_unread, ldg, ldws, lds]
  rw [View.canon_unit_zero (S := S1536x512) (by funext a; fin_cases a <;> rfl), pay2_apply]
  simp only [View.readCov_eq_canon']
  rw [slabs_eq x0 x1 x2 xs _ _ (ld0 xs) (ld1 xs)]
  congr 1
  · congr 2
    funext a; apply Fin.ext
    match a with
    | ⟨0, _⟩ => rfl
    | ⟨1, _⟩ => show 0 + 1 * t.val = t.val; omega
    | ⟨2, _⟩ => show 0 + 1 * d.val = d.val; omega
  · congr 3
    funext a; apply Fin.ext
    match a with
    | ⟨0, _⟩ => rfl
    | ⟨1, _⟩ => show 0 + 1 * (nxt t).val = (nxt t).val; omega
    | ⟨2, _⟩ => show 0 + 1 * d.val = d.val; omega
end Cert.DxIdeal.Hand
-- ==== Proof.DxForm.lean ====
/-
  The dx result's closed form, over plain index functions of the extended reals: both sides of the value claim are
  brought to it.
-/
module
public import Mathlib.Data.EReal.Operations
public import Mathlib.Algebra.BigOperators.Fin
@[expose] public section
noncomputable section
namespace Cert.DxForm

/-- The weight block of tap `j` and phase `p`. -/
abbrev tap (j : Fin 2) (p : Fin 8) : Fin 16 := ⟨8 * j.val + p.val, by have := j.isLt; have := p.isLt; omega⟩
/-- The sequence of a row, and its place there. -/
abbrev sqn (t : Fin 1536) : Fin 2 := ⟨t.val / 768, by have := t.isLt; omega⟩
abbrev pl (t : Fin 1536) : Fin 768 := ⟨t.val % 768, Nat.mod_lt _ (by decide)⟩
/-- The row after row `t`, cyclically. -/
abbrev nxt (t : Fin 1536) : Fin 1536 := ⟨(t.val + 1536 - 1535) % 1536, Nat.mod_lt _ (by decide)⟩

/-- The product of phase `p` and tap `j` at row `r`, column `d`. -/
def term (g : Fin 8 → Fin 1536 → Fin 1792 → EReal) (w : Fin 16 → Fin 3584 → Fin 1792 → EReal) (ws : Fin 1792 → EReal)
    (j : Fin 2) (r : Fin 1536) (d : Fin 3584) (p : Fin 8) : EReal :=
  ∑ o : Fin 1792, (g p r o * ws o) * w (tap j p) d o

/-- The sum over all phases. -/
def tot (g : Fin 8 → Fin 1536 → Fin 1792 → EReal) (w : Fin 16 → Fin 3584 → Fin 1792 → EReal) (ws : Fin 1792 → EReal)
    (j : Fin 2) (r : Fin 1536) (d : Fin 3584) : EReal := ∑ p : Fin 8, term g w ws j r d p

/-- The result at row `r`, column `d`. -/
def res (g : Fin 8 → Fin 1536 → Fin 1792 → EReal) (s : Fin 2 → Fin 768 → EReal) (w : Fin 16 → Fin 3584 → Fin 1792 → EReal)
    (ws : Fin 1792 → EReal) (r : Fin 1536) (d : Fin 3584) : EReal :=
  tot g w ws 0 r d * s (sqn r) (pl r)
    + if r.val % 768 = 767 then 0 else tot g w ws 1 (nxt r) d * s (sqn (nxt r)) (pl (nxt r))

end Cert.DxForm
-- ==== Proof.DxValue.lean ====
/-
  The dx kernel's result at the ideal instance, in closed form: the scratch after the points of a run is the sum over
  the phases so far, and the result array at row `t`, column `d` is slab 0's sum scaled by the row's scale plus, but at
  the last row of a sequence, slab 1's sum of the next row scaled by that row's scale.
-/
module
public import proofs.«01_k».proof.Proof.DxStep
public import proofs.«01_k».proof.Proof.DxForm
public import Idealize.ShloMosaic.Lib.StableHlo.Run
@[expose] public section
set_option maxRecDepth 16384
noncomputable section
open Idealize.ShloMosaic Idealize.ShloMosaic.TcCoe Idealize.SL.Sem
namespace Cert.DxIdeal.Hand
open Cert.DxIdeal Cert.DxIdeal.Gen
open Cert.DxForm (tap sqn pl)

variable (m : (ℓ : Loc nD τ sig) → Buf (Elt Ideal) ℓ) (ρ : Dev nD → PrngReg)

/-! ## The windows' blocks -/

/-- The host's reshape of the row scales. -/
theorem V_v0 (c : Dev nD) : V m c main_v0 = shapeCast S1536x1 (m ((c : Thread nD τ).loc main_arg1)) shapeCasts_S2x768_S1536x1 := by
  unfold V; after_results; rfl
/-- The host's reshape of the weights. -/
theorem V_v1 (c : Dev nD) : V m c main_v1 = shapeCast S2x8x3584x1792 (m ((c : Thread nD τ).loc main_arg2)) shapeCasts_S16x3584x1792_S2x8x3584x1792 := by
  unfold V; after_results; rfl
/-- The host's reshape of the column scales. -/
theorem V_v2 (c : Dev nD) : V m c main_v2 = shapeCast S1x1792 (m ((c : Thread nD τ).loc main_arg3)) shapeCasts_S1792_S1x1792 := by
  unfold V; after_results; rfl

/-- The input windows' block indices over the grid. -/
theorem idx_in : ∀ t : Fin cfg0.N,
    win0_0.index t = ![t.val % 8, 0, 0] ∧ win0_1.index t = ![0, t.val % 8, t.val / 8, 0]
    ∧ win0_2.index t = ![0, 0] ∧ win0_3.index t = ![0, 0] :=
  (by decide +kernel : ∀ t : Fin grid0.N, _)

/-- The phase of a point. -/
abbrev ph (t : Fin cfg0.N) : Fin 8 := ⟨t.val % 8, Nat.mod_lt _ (by decide)⟩
/-- The column of the whole result that column `d` of a point's block is. -/
abbrev col (t : Fin cfg0.N) (d : Fin 512) : Fin 3584 :=
  ⟨512 * (t.val / 8) + d.val, by have h := lt_of_lt_of_eq t.isLt (show cfg0.N = 56 from N_0); have := d.isLt; omega⟩
theorem iblk0_apply (c : Dev nD) (t : Fin cfg0.N) (r : Fin 1536) (o : Fin 1792) :
    iblk m c 0 t (ix3 0 r o) = m ((c : Thread nD τ).loc main_arg0) (ix3 (ph t) r o) := by
  obtain ⟨e, -, -, -⟩ := idx_in t
  have e0 := congrFun e 0; have e1 := congrFun e 1; have e2 := congrFun e 2
  show V m c main_arg0 (((cfg0.win 0).blk t).view.emb (ix3 0 r o)) = _
  rw [V_main_arg0]
  refine congrArg _ (funext fun a => Fin.ext ?_)
  match a with
  | ⟨0, _⟩ => show win0_0.index t 0 * 1 + 1 * 0 = t.val % 8; rw [e0]; show t.val % 8 * 1 + 1 * 0 = _; omega
  | ⟨1, _⟩ => show win0_0.index t 1 * 1536 + 1 * r.val = r.val; rw [e1]; show 0 * 1536 + 1 * r.val = _; omega
  | ⟨2, _⟩ => show win0_0.index t 2 * 1792 + 1 * o.val = o.val; rw [e2]; show 0 * 1792 + 1 * o.val = _; omega

theorem iblk1_apply (c : Dev nD) (t : Fin cfg0.N) (j : Fin 2) (d : Fin 512) (o : Fin 1792) :
    iblk m c 1 t (ix4 j 0 d o) = m ((c : Thread nD τ).loc main_arg2) (ix3 (tap j (ph t)) (col t d) o) := by
  obtain ⟨-, e, -, -⟩ := idx_in t
  have e0 := congrFun e 0; have e1 := congrFun e 1; have e2 := congrFun e 2; have e3 := congrFun e 3
  have hj := j.isLt; have hd := d.isLt; have ho := o.isLt
  have hN := lt_of_lt_of_eq t.isLt (show cfg0.N = 56 from N_0)
  show V m c main_v1 (((cfg0.win 1).blk t).view.emb (ix4 j 0 d o)) = _
  have hx : ((cfg0.win 1).blk t).view.emb (ix4 j 0 d o) = (ix4 j (ph t) (col t d) o : S2x8x3584x1792.Idx) := by
    refine funext fun a => Fin.ext ?_
    match a with
    | ⟨0, _⟩ => show win0_1.index t 0 * 2 + 1 * j.val = j.val; rw [e0]; show 0 * 2 + 1 * j.val = _; omega
    | ⟨1, _⟩ => show win0_1.index t 1 * 1 + 1 * 0 = t.val % 8; rw [e1]; show t.val % 8 * 1 + 1 * 0 = _; omega
    | ⟨2, _⟩ => show win0_1.index t 2 * 512 + 1 * d.val = 512 * (t.val / 8) + d.val; rw [e2]; show t.val / 8 * 512 + 1 * d.val = _; omega
    | ⟨3, _⟩ => show win0_1.index t 3 * 1792 + 1 * o.val = o.val; rw [e3]; show 0 * 1792 + 1 * o.val = _; omega
  rw [hx, V_v1]
  refine shapeCast_apply _ shapeCasts_S16x3584x1792_S2x8x3584x1792 _ _ ?_
  rewrite [Shape.rowMajor_val_three, Shape.rowMajor_val_four]
  show ((8 * j.val + t.val % 8) * 3584 + (512 * (t.val / 8) + d.val)) * 1792 + o.val
    = ((j.val * 8 + t.val % 8) * 3584 + (512 * (t.val / 8) + d.val)) * 1792 + o.val
  omega

theorem iblk2_apply (c : Dev nD) (t : Fin cfg0.N) (o : Fin 1792) :
    iblk m c 2 t (ix2 0 o) = m ((c : Thread nD τ).loc main_arg3) (ix1 o) := by
  obtain ⟨-, -, e, -⟩ := idx_in t
  have e0 := congrFun e 0; have e1 := congrFun e 1
  show V m c main_v2 (((cfg0.win 2).blk t).view.emb (ix2 0 o)) = _
  have hx : ((cfg0.win 2).blk t).view.emb (ix2 0 o) = (ix2 0 o : S1x1792.Idx) := by
    refine funext fun a => Fin.ext ?_
    match a with
    | ⟨0, _⟩ => show win0_2.index t 0 * 1 + 1 * 0 = 0; rw [e0]; rfl
    | ⟨1, _⟩ => show win0_2.index t 1 * 1792 + 1 * o.val = o.val; rw [e1]; show 0 * 1792 + 1 * o.val = _; omega
  rw [hx, V_v2]
  refine shapeCast_apply _ shapeCasts_S1792_S1x1792 _ _ ?_
  rewrite [Shape.rowMajor_val_one, Shape.rowMajor_val_two]
  show o.val = 0 * 1792 + o.val
  omega

theorem iblk3_apply (c : Dev nD) (t : Fin cfg0.N) (r : Fin 1536) :
    iblk m c 3 t (ix2 r 0) = m ((c : Thread nD τ).loc main_arg1) (ix2 (sqn r) (pl r)) := by
  obtain ⟨-, -, -, e⟩ := idx_in t
  have e0 := congrFun e 0; have e1 := congrFun e 1
  show V m c main_v0 (((cfg0.win 3).blk t).view.emb (ix2 r 0)) = _
  have hx : ((cfg0.win 3).blk t).view.emb (ix2 r 0) = (ix2 r 0 : S1536x1.Idx) := by
    refine funext fun a => Fin.ext ?_
    match a with
    | ⟨0, _⟩ => show win0_3.index t 0 * 1536 + 1 * r.val = r.val; rw [e0]; show 0 * 1536 + 1 * r.val = _; omega
    | ⟨1, _⟩ => show win0_3.index t 1 * 1 + 1 * 0 = 0; rw [e1]; rfl
  rw [hx, V_v0]
  refine shapeCast_apply _ shapeCasts_S2x768_S1536x1 _ _ ?_
  rewrite [Shape.rowMajor_val_two, Shape.rowMajor_val_two]
  show r.val / 768 * 768 + r.val % 768 = r.val * 1 + 0
  omega

/-! ## The fold over a run -/

/-- The arguments, as index functions. -/
def gA (c : Dev nD) (p : Fin 8) (r : Fin 1536) (o : Fin 1792) : EReal := m ((c : Thread nD τ).loc main_arg0) (ix3 p r o)
def sA (c : Dev nD) (b : Fin 2) (t : Fin 768) : EReal := m ((c : Thread nD τ).loc main_arg1) (ix2 b t)
def wA (c : Dev nD) (j : Fin 16) (d : Fin 3584) (o : Fin 1792) : EReal := m ((c : Thread nD τ).loc main_arg2) (ix3 j d o)
def wsA (c : Dev nD) (o : Fin 1792) : EReal := m ((c : Thread nD τ).loc main_arg3) (ix1 o)

/-- The product of phase `p` and tap `j` at row `r`, column `d`. -/
abbrev term (c : Dev nD) (j : Fin 2) (r : Fin 1536) (d : Fin 3584) (p : Fin 8) : EReal :=
  DxForm.term (gA m c) (wA m c) (wsA m c) j r d p

/-- A point's step adds its phase's product. -/
theorem stp_apply (c : Dev nD) (t : Fin cfg0.N) (xs : Vec Ideal S2x1536x512 .f32) (j : Fin 2) (r : Fin 1536) (d : Fin 512) :
    stp (iblk m c 0 t) (iblk m c 1 t) (iblk m c 2 t) xs (ix3 j r d) = xs (ix3 j r d) + term m c j r (col t d) (ph t) :=
  congrArg (fun z : EReal => (xs (ix3 j r d) : EReal) + z) (Finset.sum_congr rfl fun o _ =>
    congrArg₂ (fun a b : EReal => a * b) (congrArg₂ (fun a b : EReal => a * b) (iblk0_apply m c t r o) (iblk2_apply m c t o))
      (iblk1_apply m c t j d o))

/-- The scratch after point `n` of a run, but its last point, is the sum over the phases so far. -/
theorem scr (c : Dev nD) (j : Fin 2) (r : Fin 1536) (d : Fin 512) : ∀ (k : ℕ) (q : ℕ) (hk : k < 7) (h : 8 * q + k < cfg0.N),
    (outsAt0 m c (8 * q + k) h).2 (ix3 j r d)
      = ∑ p ∈ Finset.univ.filter (fun p : Fin 8 => p.val ≤ k), term m c j r (col ⟨8 * q + k, h⟩ d) p
  | 0, q, hk, h => by
    have hA := outsAt0_A m c ⟨8 * q + 0, h⟩ (by show (8 * q + 0) % 8 = 0; omega) (by show ¬(8 * q + 0) % 8 = 7; omega)
    have h1 := congrArg (fun z => z.2 (ix3 j r d)) hA
    refine h1.trans ?_
    dsimp only
    rw [sout_A, stp_apply, zero_add]
    rw [show (Finset.univ.filter (fun p : Fin 8 => p.val ≤ 0)) = {ph ⟨8 * q + 0, h⟩} from by
      have e : ph ⟨8 * q + 0, h⟩ = 0 := Fin.ext (by show (8 * q + 0) % 8 = 0; omega)
      rw [e]; decide]
    rw [Finset.sum_singleton]
  | k + 1, q, hk, h => by
    have hB := outsAt0_B m c ⟨8 * q + (k + 1), h⟩ (by show ¬(8 * q + (k + 1)) % 8 = 0; omega) (by show ¬(8 * q + (k + 1)) % 8 = 7; omega)
    have h1 := congrArg (fun z => z.2 (ix3 j r d)) hB
    refine h1.trans ?_
    dsimp only
    rw [sout_B, stp_apply]
    have ih := scr c j r d k q (by omega) (by omega)
    have hcol : col ⟨8 * q + (k + 1), h⟩ d = col ⟨8 * q + k, by omega⟩ d :=
      Fin.ext (by show 512 * ((8 * q + (k + 1)) / 8) + d.val = 512 * ((8 * q + k) / 8) + d.val; omega)
    have hph : ph ⟨8 * q + (k + 1), h⟩ = ⟨k + 1, by omega⟩ := Fin.ext (by show (8 * q + (k + 1)) % 8 = k + 1; omega)
    rw [show (Finset.univ.filter (fun p : Fin 8 => p.val ≤ k + 1))
        = insert (⟨k + 1, by omega⟩ : Fin 8) (Finset.univ.filter (fun p : Fin 8 => p.val ≤ k)) from by
      ext p; simp only [Finset.mem_filter, Finset.mem_univ, true_and, Finset.mem_insert, Fin.ext_iff]; omega]
    rw [Finset.sum_insert (by simp), hph, hcol, add_comm]
    congr 1

/-- The sum over all phases. -/
abbrev tot (c : Dev nD) (j : Fin 2) (r : Fin 1536) (d : Fin 3584) : EReal := DxForm.tot (gA m c) (wA m c) (wsA m c) j r d

/-- The stepped scratch at the last point of a run is the sum over all phases. -/
theorem scr_last (c : Dev nD) (j : Fin 2) (r : Fin 1536) (d : Fin 512) (q : ℕ) (h : 8 * q + 7 < cfg0.N) (h' : 8 * q + 7 - 1 < cfg0.N) :
    stp (iblk m c 0 ⟨8 * q + 7, h⟩) (iblk m c 1 ⟨8 * q + 7, h⟩) (iblk m c 2 ⟨8 * q + 7, h⟩) (outsAt0 m c (8 * q + 7 - 1) h').2 (ix3 j r d)
      = tot m c j r (col ⟨8 * q + 7, h⟩ d) := by
  rw [stp_apply]
  have ih := scr m c j r d 6 q (by omega) (by omega)
  have hcol : col ⟨8 * q + 7, h⟩ d = col ⟨8 * q + 6, by omega⟩ d :=
    Fin.ext (by show 512 * ((8 * q + 7) / 8) + d.val = 512 * ((8 * q + 6) / 8) + d.val; omega)
  have hph : ph ⟨8 * q + 7, h⟩ = 7 := Fin.ext (by show (8 * q + 7) % 8 = 7; omega)
  unfold tot DxForm.tot
  rw [show (Finset.univ : Finset (Fin 8)) = insert 7 (Finset.univ.filter (fun p : Fin 8 => p.val ≤ 6)) from by decide]
  rw [Finset.sum_insert (by decide), hph, hcol, add_comm]
  congr 1

/-! ## The result array -/

/-- The closed form of the result at row `r`, column `d`. -/
abbrev res (c : Dev nD) (r : Fin 1536) (d : Fin 3584) : EReal :=
  DxForm.res (gA m c) (sA m c) (wA m c) (wsA m c) r d

/-- The array the kernel leaves is the closed form. -/
theorem G4_apply (c : Dev nD) (r : Fin 1536) (d : Fin 3584) : Value.G4 m c (ix2 r d) = res m c r d := by
  have hr := r.isLt; have hd := d.isLt
  have hp : Value.pt4Of (ix2 r d) = 8 * (d.val / 512) + 7 := by
    show 8 * (7 * (r.val / 1536 - 0) + 1 * (d.val / 512 - 0)) + 7 = _
    omega
  have hN : cfg0.N = 56 := N_0
  have hq : 8 * (d.val / 512) + 7 < cfg0.N := by rw [hN]; omega
  have hl : Value.loc4Of (ix2 r d) = (ix2 r ⟨d.val % 512, Nat.mod_lt _ (by decide)⟩ : S1536x512.Idx) := by
    funext a; apply Fin.ext
    match a with
    | ⟨0, _⟩ => show r.val % 1536 = r.val; omega
    | ⟨1, _⟩ => rfl
  unfold Value.G4
  rw [dif_pos (by rw [hp]; exact hq), hl,
    Value.fold0_congr m c _ _ _ (by omega) hp, ← Value.outsAt0_sweep m c _ hq]
  have hC := outsAt0_C m c ⟨8 * (d.val / 512) + 7, hq⟩ (by show ¬(8 * (d.val / 512) + 7) % 8 = 0; omega) (by show (8 * (d.val / 512) + 7) % 8 = 7; omega)
  have h1 := congrArg (fun z => z.1 (ix2 r (⟨d.val % 512, Nat.mod_lt _ (by decide)⟩ : Fin 512))) hC
  refine h1.trans ?_
  dsimp only
  rw [out_C, iblk3_apply, iblk3_apply]
  have hcol : col ⟨8 * (d.val / 512) + 7, hq⟩ ⟨d.val % 512, Nat.mod_lt _ (by decide)⟩ = d :=
    Fin.ext (by show 512 * ((8 * (d.val / 512) + 7) / 8) + d.val % 512 = d.val; omega)
  rw [scr_last, scr_last, hcol]
  rfl

/-- The kernel's run with its result in closed form. -/
theorem run_res : θ_run defs (onTc (τ := τ) (main (F := Ideal))) ⟨m, fun _ => 0, ρ⟩ fun r => ∀ c : Dev nD,
    (∀ t d, r.2.mem ((c : Thread nD τ).loc main_v3) (ix2 t d) = res m c t d)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨fun t d => by rw [(h c).1]; exact G4_apply m c t d, (h c).2⟩) (Value.run m ρ)

end Cert.DxIdeal.Hand
-- ==== Proof.DxRefWiden.lean ====
/-
  The dx reference's widening call at the ideal instance: a widened code is the number it stands for, so each result of
  the call is its argument.
-/
module
public import proofs.«01_k».proof.Proof.Gen.DxRefIdeal.Run
public import Idealize.ShloMosaic.Lib.Pipeline.Value
public import Idealize.ShloMosaic.Lib.ValueIdx
@[expose] public section
noncomputable section
open Idealize.ShloMosaic Idealize.ShloMosaic.TcCoe Idealize.SL.Sem
namespace Cert.DxRefIdeal.Hand
open Cert.DxRefIdeal Cert.DxRefIdeal.Gen

variable (m : (ℓ : Loc nD τ sig) → Buf (Elt Ideal) ℓ)

theorem out2 (x0 : Vec Ideal S8x1536x1792 .fp8e5m2) (x1 : Vec Ideal S16x3584x1792 .fp8e4m3) : out0_2 x0 x1 = x0 := by
  unfold out0_2
  rw [View.canon_unit_zero (S := S8x1536x1792)]
  unfold k0_pay1
  rw [View.ld_unit_zero (S := S8x1536x1792)]
  · rfl
  all_goals (funext a; fin_cases a <;> rfl)

theorem out3 (x0 : Vec Ideal S8x1536x1792 .fp8e5m2) (x1 : Vec Ideal S16x3584x1792 .fp8e4m3) : out0_3 x0 x1 = x1 := by
  unfold out0_3
  rw [View.canon_unit_zero (S := S16x3584x1792)]
  unfold k0_pay2
  rw [View.ld_unit_zero (S := S16x3584x1792)]
  · rfl
  all_goals (funext a; fin_cases a <;> rfl)

theorem emb0 (t : Fin cfg0.N) (i : S8x1536x1792.Idx) : ((cfg0.win 0).blk t).view.emb i = i := by
  funext a; apply Fin.ext
  show 0 * _ + 1 * (i a).val = (i a).val
  omega
theorem emb1 (t : Fin cfg0.N) (i : S16x3584x1792.Idx) : ((cfg0.win 1).blk t).view.emb i = i := by
  funext a; apply Fin.ext
  show 0 * _ + 1 * (i a).val = (i a).val
  omega
theorem emb2 (t : Fin cfg0.N) (i : S8x1536x1792.Idx) : ((cfg0.win 2).blk t).view.emb i = i := by
  funext a; apply Fin.ext
  show 0 * _ + 1 * (i a).val = (i a).val
  omega
theorem emb3 (t : Fin cfg0.N) (i : S16x3584x1792.Idx) : ((cfg0.win 3).blk t).view.emb i = i := by
  funext a; apply Fin.ext
  show 0 * _ + 1 * (i a).val = (i a).val
  omega

/-- The widened phase planes are the phase planes. -/
theorem reg0 (c : Dev nD) : (Value.reg_main_v0_0 m c : S8x1536x1792.Idx → EReal) = m ((c : Thread nD τ).loc main_arg0) := by
  have hf : (dats m 0 c).arrAt 2 cfg0.N = (fun i => m ((c : Thread nD τ).loc main_arg0) i : S8x1536x1792.Idx → EReal) := by
    refine (dats m 0 c).arrAt_eq_of_cover 2 _ ?_ ?_
    · intro t _
      show (cfg0.win 2).cut _ ((dats m 0 c).after 2 t) = _
      rw [after0_2, out2]
      funext y
      show V m c main_arg0 (((cfg0.win 0).blk t).view.emb y) = m ((c : Thread nD τ).loc main_arg0) (((cfg0.win 2).blk t).view.emb y)
      exact congrArg (m ((c : Thread nD τ).loc main_arg0)) ((emb0 t y).trans (emb2 t y).symm)
    · intro i
      refine ⟨⟨0, by decide⟩, flush0_2 _, ?_⟩
      exact (emb2 ⟨0, by decide⟩ i) ▸ ((cfg0.win 2).blk ⟨0, by decide⟩).view.emb_mem_set i
  exact hf

/-- The widened weights are the weights. -/
theorem reg1 (c : Dev nD) : (Value.reg_main_v0_1 m c : S16x3584x1792.Idx → EReal) = m ((c : Thread nD τ).loc main_arg2) := by
  have hf : (dats m 0 c).arrAt 3 cfg0.N = (fun i => m ((c : Thread nD τ).loc main_arg2) i : S16x3584x1792.Idx → EReal) := by
    refine (dats m 0 c).arrAt_eq_of_cover 3 _ ?_ ?_
    · intro t _
      show (cfg0.win 3).cut _ ((dats m 0 c).after 3 t) = _
      rw [after0_3, out3]
      funext y
      show V m c main_arg2 (((cfg0.win 1).blk t).view.emb y) = m ((c : Thread nD τ).loc main_arg2) (((cfg0.win 3).blk t).view.emb y)
      exact congrArg (m ((c : Thread nD τ).loc main_arg2)) ((emb1 t y).trans (emb3 t y).symm)
    · intro i
      refine ⟨⟨0, by decide⟩, flush0_3 _, ?_⟩
      exact (emb3 ⟨0, by decide⟩ i) ▸ ((cfg0.win 3).blk ⟨0, by decide⟩).view.emb_mem_set i
  exact hf

end Cert.DxRefIdeal.Hand
-- ==== Proof.ScatterRead.lean ====
/-
  A scatter whose updates land at pairwise different places, read at an index: the place of update `j` holds the old
  element combined with the update, every other place what it held.
-/
module
public import Idealize.ShloMosaic.PureOps.ShapeOps
@[expose] public section
namespace Cert.ScatterRead
open Idealize.ShloMosaic

variable {ι I α : Type}

/-- A fold of single-place updates leaves a place no update lands at. -/
theorem fold_miss (st : (I → α) → ι → I → α) (E : ι → I) (hst : ∀ r n i, E n ≠ i → st r n i = r i) (i : I) :
    ∀ (L : List ι) (x : I → α), (∀ n ∈ L, E n ≠ i) → L.foldl st x i = x i
  | [], _, _ => rfl
  | a :: L, x, h => (fold_miss st E hst i L (st x a) fun n hn => h n (List.mem_cons_of_mem _ hn)).trans
      (hst x a i (h a List.mem_cons_self))

/-- A fold of updates at different places leaves at the place of one of them that update applied. -/
theorem fold_hit (st : (I → α) → ι → I → α) (E : ι → I) (hE : Function.Injective E) (G : ι → α → α)
    (hst : ∀ r n i, E n ≠ i → st r n i = r i) (hst' : ∀ r n, st r n (E n) = G n (r (E n))) (n : ι) :
    ∀ (L : List ι) (x : I → α), L.Nodup → n ∈ L → L.foldl st x (E n) = G n (x (E n))
  | [], _, _, h => absurd h List.not_mem_nil
  | a :: L, x, nd, h => by
    rw [List.foldl_cons]
    by_cases e : n = a
    · subst e
      rw [fold_miss st E hst (E n) L _ fun k hk e' => (List.nodup_cons.mp nd).1 (hE e' ▸ hk)]
      exact hst' x n
    · rw [fold_hit st E hE G hst hst' n L _ (List.nodup_cons.mp nd).2 ((List.mem_cons.mp h).resolve_left e),
        hst x a _ fun e' => e (hE e').symm]

variable {s si u : Shape} {w : Nat} (d : ScatterDims s si u) (f : α → α → α) (x : s.Idx → α) (idx : IVec si w) (upd : u.Idx → α)
  (E : u.Idx → s.Idx) (hE : Function.Injective E) (hr : ∀ j, d.resultIdx? j idx = some (E j))

include hr in
/-- A place no update lands at keeps its element. -/
theorem scatter_miss (i : s.Idx) (hi : ∀ j, E j ≠ i) : Host.scatter d f x idx upd i = x i := by
  unfold Host.scatter
  refine fold_miss _ (fun n => E (u.rowMajor.symm n)) ?_ i _ x fun n _ => hi _
  intro r n i' h
  rw [hr]
  exact if_neg (Ne.symm h)

include hE hr in
/-- The place of update `j` holds the element there combined with the update. -/
theorem scatter_hit (j : u.Idx) : Host.scatter d f x idx upd (E j) = f (x (E j)) (upd j) := by
  unfold Host.scatter
  have h := fold_hit (fun r n => match d.resultIdx? (u.rowMajor.symm n) idx with
      | some i => fun i' => if i' = i then f (r i) (upd (u.rowMajor.symm n)) else r i'
      | none => r) (fun n => E (u.rowMajor.symm n)) (hE.comp u.rowMajor.symm.injective)
    (fun n a => f a (upd (u.rowMajor.symm n)))
    (by intro r n i' h; rw [hr]; exact if_neg (Ne.symm h))
    (by intro r n; rw [hr]; exact if_pos rfl) (u.rowMajor j) (List.finRange u.numel) x
    (List.nodup_finRange _) (List.mem_finRange _)
  rw [Equiv.symm_apply_apply] at h
  exact h

end Cert.ScatterRead
-- ==== Proof.DxRefValue.lean ====
/-
  The dx reference's result at the ideal instance, in the closed form of `DxForm`.
-/
module
public import proofs.«01_k».proof.Proof.Gen.DxRefIdeal.Read
public import proofs.«01_k».proof.Proof.DxRefWiden
public import proofs.«01_k».proof.Proof.DxForm
public import proofs.«01_k».proof.Proof.ScatterRead
public import Idealize.ShloMosaic.Lib.TwoAxisContraction
public import Idealize.ShloMosaic.Lib.Routing.OpsPair
public import Idealize.ShloMosaic.Lib.ValueIdx
public import Idealize.ShloMosaic.Lib.Pointwise
@[expose] public section
set_option maxRecDepth 16384
noncomputable section
open Idealize.ShloMosaic Idealize.ShloMosaic.TcCoe Idealize.SL.Sem
open Idealize.ShloMosaic.ValueIdx (contrEquiv2 sum_contr2)
namespace Cert.DxRefIdeal.Hand
open Cert.DxRefIdeal Cert.DxRefIdeal.Gen Cert.DxRefIdeal.Read
open Cert.DxForm (tap sqn pl nxt)

/-! ## The two products at an index -/

theorem dot768 (lhs : FVec Ideal S2x768x8x1792 .bf16) (rhs : FVec Ideal S8x3584x1792 .bf16) (b : Fin 2) (t : Fin 768) (d : Fin 3584) :
    ((Host.dotGeneral dot_S2x768x8x1792_S8x3584x1792_S2x768x3584_32_20_01_1_n_n none lhs rhs : FVec Ideal S2x768x3584 .f32) (ix3 b t d) : EReal)
      = ∑ p : Fin 8, ∑ o : Fin 1792, (lhs (ix4 b t p o) : EReal) * rhs (ix3 p d o) := by
  refine (Ideal.dotGeneral_apply dot_S2x768x8x1792_S8x3584x1792_S2x768x3584_32_20_01_1_n_n none _ lhs rhs (ix3 b t d)).trans ?_
  refine (sum_contr2 dot_S2x768x8x1792_S8x3584x1792_S2x768x3584_32_20_01_1_n_n 1792 8 rfl rfl rfl _).trans ?_
  refine Finset.sum_comm.trans (Finset.sum_congr rfl fun p _ => Finset.sum_congr rfl fun o _ => ?_)
  refine congrArg₂ (fun a b : EReal => a * b) (congrArg lhs (funext fun a => Fin.ext ?_)) (congrArg rhs (funext fun a => Fin.ext ?_))
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl

theorem dot767 (lhs : FVec Ideal S2x767x8x1792 .bf16) (rhs : FVec Ideal S8x3584x1792 .bf16) (b : Fin 2) (t : Fin 767) (d : Fin 3584) :
    ((Host.dotGeneral dot_S2x767x8x1792_S8x3584x1792_S2x767x3584_32_20_01_1_n_n none lhs rhs : FVec Ideal S2x767x3584 .f32) (ix3 b t d) : EReal)
      = ∑ p : Fin 8, ∑ o : Fin 1792, (lhs (ix4 b t p o) : EReal) * rhs (ix3 p d o) := by
  refine (Ideal.dotGeneral_apply dot_S2x767x8x1792_S8x3584x1792_S2x767x3584_32_20_01_1_n_n none _ lhs rhs (ix3 b t d)).trans ?_
  refine (sum_contr2 dot_S2x767x8x1792_S8x3584x1792_S2x767x3584_32_20_01_1_n_n 1792 8 rfl rfl rfl _).trans ?_
  refine Finset.sum_comm.trans (Finset.sum_congr rfl fun p _ => Finset.sum_congr rfl fun o _ => ?_)
  refine congrArg₂ (fun a b : EReal => a * b) (congrArg lhs (funext fun a => Fin.ext ?_)) (congrArg rhs (funext fun a => Fin.ext ?_))
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl

/-! ## The operands at an index -/

/-- Row `t` of sequence `b`. -/
abbrev row (b : Fin 2) (t : Fin 768) : Fin 1536 := ⟨768 * b.val + t.val, by have := b.isLt; have := t.isLt; omega⟩
/-- The place after place `t`. -/
abbrev up (t : Fin 767) : Fin 768 := ⟨1 + t.val, by have := t.isLt; omega⟩

variable (x1 : Vec Ideal S2x768 .f32) (x3 : Vec Ideal S1792 .f32) (r0 : Vec Ideal S8x1536x1792 .bf16) (r1 : Vec Ideal S16x3584x1792 .bf16)

theorem v2_apply (b : Fin 2) (t : Fin 768) (p : Fin 8) (o : Fin 1792) :
    val_main_v2 (F := Ideal) r0 (ix4 b t p o) = r0 (ix3 p (row b t) o) := by
  have hb := b.isLt; have ht := t.isLt; have hp := p.isLt; have ho := o.isLt
  rw [val_main_v2_apply, val_main_v1_apply]
  refine congrArg r0 (funext fun a => Fin.ext ?_)
  match a with
  | ⟨0, _⟩ => show (((p.val * 2 + b.val) * 768 + t.val) * 1792 + o.val) / 2752512 = p.val; omega
  | ⟨1, _⟩ => show (((p.val * 2 + b.val) * 768 + t.val) * 1792 + o.val) / 1792 % 1536 = 768 * b.val + t.val; omega
  | ⟨2, _⟩ => show (((p.val * 2 + b.val) * 768 + t.val) * 1792 + o.val) % 1792 = o.val; omega

theorem v14_apply (b : Fin 2) (t : Fin 767) (p : Fin 8) (o : Fin 1792) :
    val_main_v14 (F := Ideal) r0 (ix4 b t p o) = r0 (ix3 p (row b (up t)) o) := by
  rw [val_main_v14_apply, ← v2_apply r0 b (up t) p o]
  refine congrArg _ (funext fun a => Fin.ext ?_)
  match a with
  | ⟨0, _⟩ => rfl
  | ⟨1, _⟩ => rfl
  | ⟨2, _⟩ => rfl
  | ⟨3, _⟩ => rfl

theorem v7_apply (j : Fin 2) (p : Fin 8) (d : Fin 3584) (o : Fin 1792) :
    (val_main_v7 (F := Ideal) x3 r1 (ix4 j p d o) : EReal) = (r1 (ix3 (tap j p) d o) : EReal) * x3 (ix1 o) := by
  have hj := j.isLt; have hd := d.isLt; have hp := p.isLt; have ho := o.isLt
  rw [val_main_v7_apply]
  have hx : idx_main_v7 (ix4 j p d o) = ix3 (tap j p) d o := by
    refine funext fun a => Fin.ext ?_
    match a with
    | ⟨0, _⟩ => show (((j.val * 8 + p.val) * 3584 + d.val) * 1792 + o.val) / 6422528 = 8 * j.val + p.val; omega
    | ⟨1, _⟩ => show (((j.val * 8 + p.val) * 3584 + d.val) * 1792 + o.val) / 1792 % 3584 = d.val; omega
    | ⟨2, _⟩ => show (((j.val * 8 + p.val) * 3584 + d.val) * 1792 + o.val) % 1792 = o.val; omega
  rw [hx, val_main_v6_apply, val_main_v5_apply, val_main_v4_apply, val_main_v3_apply]
  refine congrArg (fun z : EReal => (r1 (ix3 (tap j p) d o) : EReal) * z) (congrArg x3 (funext fun a => Fin.ext ?_))
  match a with
  | ⟨0, _⟩ => rfl

theorem v9_apply (p : Fin 8) (d : Fin 3584) (o : Fin 1792) :
    (val_main_v9 (F := Ideal) x3 r1 (ix3 p d o) : EReal) = (r1 (ix3 (tap 0 p) d o) : EReal) * x3 (ix1 o) := by
  have hd := d.isLt; have hp := p.isLt; have ho := o.isLt
  rw [val_main_v9_apply, val_main_v8_apply, ← v7_apply x3 r1 0 p d o]
  refine congrArg (val_main_v7 (F := Ideal) x3 r1) (funext fun a => Fin.ext ?_)
  match a with
  | ⟨0, _⟩ => rfl
  | ⟨1, _⟩ => show ((p.val * 3584 + d.val) * 1792 + o.val) / 6422528 % 8 = p.val; omega
  | ⟨2, _⟩ => show ((p.val * 3584 + d.val) * 1792 + o.val) / 1792 % 3584 = d.val; omega
  | ⟨3, _⟩ => show ((p.val * 3584 + d.val) * 1792 + o.val) % 1792 = o.val; omega

theorem v16_apply (p : Fin 8) (d : Fin 3584) (o : Fin 1792) :
    (val_main_v16 (F := Ideal) x3 r1 (ix3 p d o) : EReal) = (r1 (ix3 (tap 1 p) d o) : EReal) * x3 (ix1 o) := by
  have hd := d.isLt; have hp := p.isLt; have ho := o.isLt
  rw [val_main_v16_apply, val_main_v15_apply, ← v7_apply x3 r1 1 p d o]
  refine congrArg (val_main_v7 (F := Ideal) x3 r1) (funext fun a => Fin.ext ?_)
  match a with
  | ⟨0, _⟩ => rfl
  | ⟨1, _⟩ => show ((p.val * 3584 + d.val) * 1792 + o.val) / 6422528 % 8 = p.val; omega
  | ⟨2, _⟩ => show ((p.val * 3584 + d.val) * 1792 + o.val) / 1792 % 3584 = d.val; omega
  | ⟨3, _⟩ => show ((p.val * 3584 + d.val) * 1792 + o.val) % 1792 = o.val; omega

/-! ## The two taps -/

/-- The sum over phases and codes of one tap, as the form writes it. -/
abbrev totR (j : Fin 2) (r : Fin 1536) (d : Fin 3584) : EReal :=
  DxForm.tot (fun p r o => r0 (ix3 p r o)) (fun k d o => r1 (ix3 k d o)) (fun o => x3 (ix1 o)) j r d

/-- A product with the weights scaled first is the product with the codes scaled first. -/
theorem tot_eq (j : Fin 2) (r : Fin 1536) (d : Fin 3584) :
    ∑ p : Fin 8, ∑ o : Fin 1792, (r0 (ix3 p r o) : EReal) * ((r1 (ix3 (tap j p) d o) : EReal) * x3 (ix1 o)) = totR x3 r0 r1 j r d := by
  unfold totR DxForm.tot DxForm.term
  refine Finset.sum_congr rfl fun p _ => Finset.sum_congr rfl fun o _ => ?_
  rw [mul_comm (r1 (ix3 (tap j p) d o) : EReal) (x3 (ix1 o) : EReal), ← mul_assoc]

theorem v13_apply (b : Fin 2) (t : Fin 768) (d : Fin 3584) :
    (val_main_v13 (F := Ideal) x1 x3 r0 r1 (ix3 b t d) : EReal) = totR x3 r0 r1 0 (row b t) d * x1 (ix2 b t) := by
  rw [val_main_v13_apply, val_main_v12_apply, val_main_v11_apply]
  refine congrArg₂ (fun a b : EReal => a * b) ?_ (congrArg x1 (funext fun a => Fin.ext ?_))
  · refine (dot768 _ _ b t d).trans (Eq.trans ?_ (tot_eq x3 r0 r1 0 (row b t) d))
    exact Finset.sum_congr rfl fun p _ => Finset.sum_congr rfl fun o _ =>
      congrArg₂ (fun a b : EReal => a * b) (v2_apply r0 b t p o) (v9_apply x3 r1 p d o)
  · match a with
    | ⟨0, _⟩ => rfl
    | ⟨1, _⟩ => rfl

theorem v21_apply (b : Fin 2) (t : Fin 767) (d : Fin 3584) :
    (val_main_v21 (F := Ideal) x1 x3 r0 r1 (ix3 b t d) : EReal) = totR x3 r0 r1 1 (row b (up t)) d * x1 (ix2 b (up t)) := by
  rw [val_main_v21_apply, val_main_v20_apply, val_main_v19_apply, val_main_v18_apply]
  refine congrArg₂ (fun a b : EReal => a * b) ?_ (congrArg x1 (funext fun a => Fin.ext ?_))
  · refine (dot767 _ _ b t d).trans (Eq.trans ?_ (tot_eq x3 r0 r1 1 (row b (up t)) d))
    exact Finset.sum_congr rfl fun p _ => Finset.sum_congr rfl fun o _ =>
      congrArg₂ (fun a b : EReal => a * b) (v14_apply r0 b t p o) (v16_apply x3 r1 p d o)
  · match a with
    | ⟨0, _⟩ => rfl
    | ⟨1, _⟩ => rfl

/-! ## The scatter-add -/

/-- Where an update lands: the same row and column, the scatter starting at row 0. -/
def land (j : S2x767x3584.Idx) : S2x768x3584.Idx := fun a => match a with
  | ⟨0, _⟩ => ⟨(j 0).val, (j 0).isLt⟩
  | ⟨1, _⟩ => ⟨(j 1).val, Nat.lt_succ_of_lt (j 1).isLt⟩
  | ⟨2, _⟩ => ⟨(j 2).val, (j 2).isLt⟩

theorem land_inj : Function.Injective land := by
  intro j j' h
  have h0 := congrArg Fin.val (congrFun h 0)
  have h1 := congrArg Fin.val (congrFun h 1)
  have h2 := congrArg Fin.val (congrFun h 2)
  refine funext fun a => Fin.ext ?_
  match a with
  | ⟨0, _⟩ => exact h0
  | ⟨1, _⟩ => exact h1
  | ⟨2, _⟩ => exact h2

theorem lands (j : S2x767x3584.Idx) :
    scatter_S2x768x3584_S1_S2x767x3584_012_n_1_0.resultIdx? j (val_main_v22 (F := Ideal)) = some (land j) := by
  refine (Routing.resultIdx?_eq_some _ j _ (land j)).mpr fun a => ?_
  have hz : ∀ k, (val_main_v22 (F := Ideal) k).toInt = 0 := fun k => by rw [val_main_v22_apply, val_main_c_apply]; rfl
  match a with
  | ⟨0, _⟩ => exact zero_add _
  | ⟨1, _⟩ => exact (congrArg (· + _) (hz _)).trans (zero_add _)
  | ⟨2, _⟩ => exact zero_add _

theorem v23_apply (b : Fin 2) (t : Fin 768) (d : Fin 3584) :
    (val_main_v23 (F := Ideal) x1 x3 r0 r1 (ix3 b t d) : EReal) = totR x3 r0 r1 0 (row b t) d * x1 (ix2 b t)
      + if h : t.val < 767 then totR x3 r0 r1 1 (row b (up ⟨t.val, h⟩)) d * x1 (ix2 b (up ⟨t.val, h⟩)) else 0 := by
  unfold val_main_v23
  by_cases h : t.val < 767
  · rw [dif_pos h]
    have hl : land (ix3 b (⟨t.val, h⟩ : Fin 767) d) = ix3 b t d := by
      refine funext fun a => Fin.ext ?_
      match a with
      | ⟨0, _⟩ => rfl
      | ⟨1, _⟩ => rfl
      | ⟨2, _⟩ => rfl
    rw [← hl, ScatterRead.scatter_hit _ _ _ _ _ land land_inj lands, hl]
    exact congrArg₂ (fun a b : EReal => a + b) (v13_apply x1 x3 r0 r1 b t d) (v21_apply x1 x3 r0 r1 b ⟨t.val, h⟩ d)
  · rw [dif_neg h, add_zero, ScatterRead.scatter_miss _ _ _ _ _ land lands]
    · exact v13_apply x1 x3 r0 r1 b t d
    · intro j hj
      have h1 := congrArg Fin.val (congrFun hj 1)
      have h2 : (j 1).val < 767 := (j 1).isLt
      have h3 : (j 1).val = t.val := h1
      omega

/-! ## The result -/

theorem v25_apply (r : Fin 1536) (d : Fin 3584) :
    (val_main_v25 (F := Ideal) x1 x3 r0 r1 (ix2 r d) : EReal)
      = DxForm.res (fun p r o => r0 (ix3 p r o)) (fun b t => x1 (ix2 b t)) (fun k d o => r1 (ix3 k d o)) (fun o => x3 (ix1 o)) r d := by
  have hr := r.isLt; have hd := d.isLt
  rw [val_main_v25_apply]
  have hx : idx_main_v25 (ix2 r d) = ix3 (sqn r) (pl r) d := by
    refine funext fun a => Fin.ext ?_
    match a with
    | ⟨0, _⟩ => show (r.val * 3584 + d.val) / 2752512 = r.val / 768; omega
    | ⟨1, _⟩ => show (r.val * 3584 + d.val) / 3584 % 768 = r.val % 768; omega
    | ⟨2, _⟩ => show (r.val * 3584 + d.val) % 3584 = d.val; omega
  rw [hx, val_main_v24_apply]
  refine (v23_apply x1 x3 r0 r1 (sqn r) (pl r) d).trans ?_
  unfold DxForm.res
  have hrow : row (sqn r) (pl r) = r := Fin.ext (by show 768 * (r.val / 768) + r.val % 768 = r.val; omega)
  rw [hrow]
  by_cases h : r.val % 768 = 767
  · rw [if_pos h, dif_neg (by show ¬ r.val % 768 < 767; omega)]
  · have h' : r.val % 768 < 767 := by have := Nat.mod_lt r.val (show 0 < 768 by decide); omega
    have hn : row (sqn r) (up ⟨r.val % 768, h'⟩) = nxt r :=
      Fin.ext (by show 768 * (r.val / 768) + (1 + r.val % 768) = (r.val + 1536 - 1535) % 1536; omega)
    have hs : sqn (nxt r) = sqn r := Fin.ext (by show ((r.val + 1536 - 1535) % 1536) / 768 = r.val / 768; omega)
    have hp : pl (nxt r) = up ⟨r.val % 768, h'⟩ := Fin.ext (by show ((r.val + 1536 - 1535) % 1536) % 768 = 1 + r.val % 768; omega)
    rw [if_neg h, dif_pos (show (pl r).val < 767 from h'), hs, hp, ← hn]

variable (m : (ℓ : Loc nD τ sig) → Buf (Elt Ideal) ℓ) (ρ : Dev nD → PrngReg)

/-- The arguments, as index functions. -/
def gA (c : Dev nD) (p : Fin 8) (r : Fin 1536) (o : Fin 1792) : EReal := m ((c : Thread nD τ).loc main_arg0) (ix3 p r o)
def sA (c : Dev nD) (b : Fin 2) (t : Fin 768) : EReal := m ((c : Thread nD τ).loc main_arg1) (ix2 b t)
def wA (c : Dev nD) (j : Fin 16) (d : Fin 3584) (o : Fin 1792) : EReal := m ((c : Thread nD τ).loc main_arg2) (ix3 j d o)
def wsA (c : Dev nD) (o : Fin 1792) : EReal := m ((c : Thread nD τ).loc main_arg3) (ix1 o)

/-- The reference's run with its result in closed form. -/
theorem run_res : θ_run defs (onTc (τ := τ) (main (F := Ideal))) ⟨m, fun _ => 0, ρ⟩ fun r => ∀ c : Dev nD,
    (∀ t d, r.2.mem ((c : Thread nD τ).loc main_v25) (ix2 t d) = DxForm.res (gA m c) (sA m c) (wA m c) (wsA m c) t d)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨fun t d => by
    rw [(h c).1]
    refine (v25_apply (m ((c : Thread nD τ).loc main_arg1)) (m ((c : Thread nD τ).loc main_arg3))
      (Value.reg_main_v0_0 m c) (Value.reg_main_v0_1 m c) t d).trans ?_
    have e0 := reg0 m c
    have e1 := reg1 m c
    rw [show (fun (p : Fin 8) (r : Fin 1536) (o : Fin 1792) => (Value.reg_main_v0_0 m c (ix3 p r o) : EReal)) = gA m c from
        funext fun p => funext fun r => funext fun o => congrFun e0 (ix3 p r o),
      show (fun (k : Fin 16) (d : Fin 3584) (o : Fin 1792) => (Value.reg_main_v0_1 m c (ix3 k d o) : EReal)) = wA m c from
        funext fun p => funext fun r => funext fun o => congrFun e1 (ix3 p r o)]
    rfl, (h c).2⟩) (Value.run m ρ)

end Cert.DxRefIdeal.Hand
-- ==== Proof.DxClaims.lean ====
/-
  The dx claims: the kernel and the reference both run, and at the ideal instance they end with the same array.
-/
module
public import proofs.«01_k».proof.Defs
public import proofs.«01_k».proof.Proof.DxValue
public import proofs.«01_k».proof.Proof.DxRefValue
public import proofs.«01_k».proof.Proof.Gen.Dx.Frame
public import proofs.«01_k».proof.Proof.Gen.DxIdeal.Frame
public import proofs.«01_k».proof.Proof.Gen.DxRefIdeal.Frame
@[expose] public section
noncomputable section
open Idealize.ShloMosaic Idealize.ShloMosaic.TcCoe Idealize.SL.Sem
namespace Cert.DxClaims

instance : Cert.Dx.Facts := Cert.Dx.Gen.facts
instance : Cert.DxIdeal.Facts := Cert.DxIdeal.Gen.facts
instance : Cert.DxRefIdeal.Facts := Cert.DxRefIdeal.Gen.facts

theorem frame_Dx : Cert.quiescent_Dx := fun m ρ _ => Cert.Dx.Gen.frame m ρ
theorem frame_DxIdeal : Cert.quiescent_DxIdeal := fun m ρ _ => Cert.DxIdeal.Gen.frame m ρ
theorem frame_DxRefIdeal : Cert.quiescent_DxRefIdeal := fun m ρ _ => Cert.DxRefIdeal.Gen.frame m ρ

/-- At the ideal instance both sides end with `DxForm.res` of the arguments, on which the two memories agree. -/
theorem algebraic : Cert.algebraic_DxIdeal_DxRefIdeal := by
  intro m ρ m' ρ' _ hagree
  refine ⟨fun c => Cert.DxIdeal.Value.G4 m c, Cert.DxIdeal.Value.run m ρ, ?_⟩
  refine (θ_run Cert.DxRefIdeal.defs _ _).mono (fun r h c => ⟨?_, (h c).2⟩) (Cert.DxRefIdeal.Hand.run_res m' ρ')
  obtain ⟨h0, h1, h2, h3⟩ := hagree c
  have e0 : Cert.DxRefIdeal.Hand.gA m' c = Cert.DxIdeal.Hand.gA m c :=
    funext fun p => funext fun t => funext fun o => congrFun h0 (ix3 p t o)
  have e1 : Cert.DxRefIdeal.Hand.sA m' c = Cert.DxIdeal.Hand.sA m c :=
    funext fun b => funext fun t => congrFun h1 (ix2 b t)
  have e2 : Cert.DxRefIdeal.Hand.wA m' c = Cert.DxIdeal.Hand.wA m c :=
    funext fun p => funext fun t => funext fun o => congrFun h2 (ix3 p t o)
  have e3 : Cert.DxRefIdeal.Hand.wsA m' c = Cert.DxIdeal.Hand.wsA m c :=
    funext fun o => congrFun h3 (ix1 o)
  have key : ∀ (t : Fin 1536) (d : Fin 3584),
      r.2.mem ((c.tc : Thread Cert.DxRefIdeal.nD Cert.DxRefIdeal.τ).loc Cert.DxRefIdeal.main_v25) (ix2 t d) = Cert.DxIdeal.Value.G4 m c (ix2 t d) := by
    intro t d
    refine ((h c).1 t d).trans ?_
    rw [e0, e1, e2, e3]
    exact (Cert.DxIdeal.Hand.G4_apply m c t d).symm
  refine funext fun y => ?_
  have hy : y = (ix2 (y 0) (y 1) : Cert.DxIdeal.S1536x3584.Idx) := by
    refine funext fun a => ?_
    match a with
    | ⟨0, _⟩ => rfl
    | ⟨1, _⟩ => rfl
  exact (congrArg _ hy).trans ((key (y 0) (y 1)).trans (congrArg (Cert.DxIdeal.Value.G4 m c) hy.symm))

end Cert.DxClaims
-- ==== Proof.DwForm.lean ====
/-
  The dw result's closed form, over plain index functions of the extended reals: both sides of the value claim are
  brought to it.
-/
module
public import proofs.«01_k».proof.Proof.DxForm
public import Mathlib.Algebra.BigOperators.Group.Finset.Sigma
public import Mathlib.Data.EReal.Inv
@[expose] public section
noncomputable section
namespace Cert.DwForm
open Cert.DxForm (sqn pl)

/-- The row before row `r`, cyclically. -/
abbrev prv (r : Fin 1536) : Fin 1536 := ⟨(r.val + 1536 - 1) % 1536, Nat.mod_lt _ (by decide)⟩
/-- Row `t` of sequence `b`. -/
abbrev row (b : Fin 2) (t : Fin 768) : Fin 1536 := ⟨768 * b.val + t.val, by have := b.isLt; have := t.isLt; omega⟩

/-- The activations tap `j` pairs with row `r`: the row's own, or the previous row's, of which the first row of a
    sequence has none. -/
def xs (x : Fin 2 → Fin 768 → Fin 3584 → EReal) (j : Fin 2) (r : Fin 1536) (c : Fin 3584) : EReal :=
  if j = 0 then x (sqn r) (pl r) c else if r.val % 768 = 0 then 0 else x (sqn (prv r)) (pl (prv r)) c

/-- The result of tap `j` and phase `p` at activation column `c`, gradient column `o`. -/
def res (x : Fin 2 → Fin 768 → Fin 3584 → EReal) (g : Fin 8 → Fin 1536 → Fin 1792 → EReal) (s : Fin 2 → Fin 768 → EReal)
    (j : Fin 2) (p : Fin 8) (c : Fin 3584) (o : Fin 1792) : EReal :=
  ∑ r : Fin 1536, (xs x j r c * s (sqn r) (pl r)) * g p r o

/-- A sum over rows is a sum over sequences and places. -/
theorem sum_rows (f : Fin 1536 → EReal) : ∑ r : Fin 1536, f r = ∑ b : Fin 2, ∑ t : Fin 768, f (row b t) := by
  rw [← Fintype.sum_prod_type' (fun (b : Fin 2) (t : Fin 768) => f (row b t))]
  refine (Fintype.sum_equiv (finProdFinEquiv (m := 2) (n := 768)) _ f fun y => congrArg f (Fin.ext ?_)).symm
  show 768 * y.1.val + y.2.val = y.2.val + 768 * y.1.val
  omega

theorem sqn_row (b : Fin 2) (t : Fin 768) : sqn (row b t) = b := by
  have hb := b.isLt; have ht := t.isLt
  exact Fin.ext (by show (768 * b.val + t.val) / 768 = b.val; omega)
theorem pl_row (b : Fin 2) (t : Fin 768) : pl (row b t) = t := by
  have hb := b.isLt; have ht := t.isLt
  exact Fin.ext (by show (768 * b.val + t.val) % 768 = t.val; omega)

/-- Tap 0, with the gradients scaled first. -/
theorem res0 (x : Fin 2 → Fin 768 → Fin 3584 → EReal) (g : Fin 8 → Fin 1536 → Fin 1792 → EReal) (s : Fin 2 → Fin 768 → EReal)
    (p : Fin 8) (c : Fin 3584) (o : Fin 1792) :
    res x g s 0 p c o = ∑ b : Fin 2, ∑ t : Fin 768, (g p (row b t) o * s b t) * x b t c := by
  unfold res
  rw [sum_rows]
  refine Finset.sum_congr rfl fun b _ => Finset.sum_congr rfl fun t _ => ?_
  unfold xs
  rw [if_pos rfl, sqn_row, pl_row, mul_comm (x b t c) (s b t), mul_comm, ← mul_assoc]

/-- The place after place `t`. -/
abbrev up (t : Fin 767) : Fin 768 := ⟨1 + t.val, by have := t.isLt; omega⟩
/-- The place `t`, of one more. -/
abbrev dn (t : Fin 767) : Fin 768 := ⟨t.val, by have := t.isLt; omega⟩

/-- Tap 1, with the gradients scaled first: the first row of a sequence adds nothing. -/
theorem res1 (x : Fin 2 → Fin 768 → Fin 3584 → EReal) (g : Fin 8 → Fin 1536 → Fin 1792 → EReal) (s : Fin 2 → Fin 768 → EReal)
    (p : Fin 8) (c : Fin 3584) (o : Fin 1792) :
    res x g s 1 p c o = ∑ b : Fin 2, ∑ t : Fin 767, (g p (row b (up t)) o * s b (up t)) * x b (dn t) c := by
  unfold res
  rw [sum_rows]
  refine Finset.sum_congr rfl fun b _ => ?_
  have hb := b.isLt
  rw [Fin.sum_univ_succ]
  have h0 : xs x 1 (row b 0) c = 0 := by
    unfold xs
    rw [if_neg (by decide), if_pos (by show (768 * b.val + 0) % 768 = 0; omega)]
  rw [h0, zero_mul, zero_mul, zero_add]
  refine Finset.sum_congr rfl fun t _ => ?_
  have ht := t.isLt
  have hs : t.succ = up t := Fin.ext (by show t.val + 1 = 1 + t.val; omega)
  have hp : prv (row b (up t)) = row b (dn t) :=
    Fin.ext (by show (768 * b.val + (1 + t.val) + 1536 - 1) % 1536 = 768 * b.val + t.val; omega)
  rw [hs]
  unfold xs
  rw [if_neg (by decide), if_neg (by show ¬(768 * b.val + (1 + t.val)) % 768 = 0; omega), hp, sqn_row, pl_row, sqn_row, pl_row,
    mul_comm (x b (dn t) c) (s b (up t)), mul_comm, ← mul_assoc]

end Cert.DwForm
-- ==== Proof.DwStep.lean ====
/-
  What one grid point of each of the two dw calls leaves, at the ideal instance and at an index: the first call's point
  the two scaled, transposed blocks of activations, the second call's point the two products.
-/
module
public import proofs.«01_k».proof.Proof.Gen.DwIdeal.Frame
public import proofs.«01_k».proof.Proof.DwForm
public import Idealize.ShloMosaic.Lib.Pipeline.Value
public import Idealize.ShloMosaic.Lib.ValueIdx
public import Idealize.ShloMosaic.Lib.Pointwise
public import Idealize.ShloMosaic.Lib.Tactic
@[expose] public section
set_option maxRecDepth 16384
noncomputable section
open Idealize.ShloMosaic Idealize.ShloMosaic.TcCoe Idealize.SL.Sem
open Idealize.ShloMosaic.ValueIdx (contrEquiv1)
namespace Cert.DwIdeal.Hand
open Cert.DwIdeal Cert.DwIdeal.Gen
open Cert.DwForm (prv)

/-! ## The first call -/

/-- The row number's remainder by 768, compared with 0. -/
theorem first_word : ∀ t : Fin 1536,
    IntOp.cmpi .eq (IntOp.remsi .vector (BitVec.ofNat 32 t.val) 768#32) 0#32 = if t.val % 768 = 0 then 1#1 else 0#1 := by
  decide +kernel

theorem pay3_apply (x : Vec Ideal S1536x256 .bf16) (s : Vec Ideal S1536x1 .f32) (d : Fin 256) (r : Fin 1536) :
    (k0_pay3 x s (ix3 0 d r) : EReal) = (x (ix2 r d) : EReal) * s (ix2 r 0) := by
  pointwise [k0_pay3, k0_pay1, k0_pay2]

theorem pay4_apply (x : Vec Ideal S1536x256 .bf16) (s : Vec Ideal S1536x1 .f32) (d : Fin 256) (r : Fin 1536) :
    (k0_pay4 x s (ix3 0 d r) : EReal) = (if r.val % 768 = 0 then 0 else (x (ix2 (prv r) d) : EReal)) * s (ix2 r 0) := by
  pointwise [k0_pay4, k0_pay1, k0_pay2]
  rw [first_word]
  split
  · exact (zero_mul _).symm
  · rfl

/-- Slab 1 does not hold the indices of slab 0. -/
theorem notin0 (y : S2x256x1536.Idx) (h : (y 0).val = 0) : y ∉ r0_3.set := by
  rw [Rect.mem_set_unit]
  intro hm
  have h1 : 1 ≤ (y 0).val := (hm 0).1
  omega

/-- A store into slab 1 leaves slab 0 as it was. -/
theorem skip0 (W1 : S1x256x1536.Idx → Elt Ideal .bf16) (L : List (View.Piece (Elt Ideal) S2x256x1536 .bf16)) (y : S2x256x1536.Idx) (h : (y 0).val = 0) :
    View.canon ((⟨r0_3, W1⟩ : View.Piece (Elt Ideal) S2x256x1536 .bf16) :: L) y = View.canon L y := by
  rw [View.canon_cons_of_not_mem]
  exact notin0 y h

/-- What the two slab stores leave, in slab 0. -/
theorem canon0_at0 (W1 W0 : S1x256x1536.Idx → Elt Ideal .bf16) (d : Fin 256) (r : Fin 1536) :
    View.canon [(⟨r0_3, W1⟩ : View.Piece (Elt Ideal) S2x256x1536 .bf16), ⟨r0_2, W0⟩] (ix3 0 d r) = W0 (ix3 0 d r) := by
  refine (skip0 W1 _ (ix3 0 d r) rfl).trans ?_
  have e : (ix3 0 d r : S2x256x1536.Idx) = r0_2.emb (ix3 0 d r) := by
    funext a; apply Fin.ext
    match a with
    | ⟨0, _⟩ => rfl
    | ⟨1, _⟩ => show d.val = 0 + 1 * d.val; omega
    | ⟨2, _⟩ => show r.val = 0 + 1 * r.val; omega
  exact (congrArg _ e).trans (View.canon_cons_emb _ _ _ _)

/-- What the two slab stores leave, in slab 1. -/
theorem canon0_at1 (W1 W0 : S1x256x1536.Idx → Elt Ideal .bf16) (d : Fin 256) (r : Fin 1536) :
    View.canon [(⟨r0_3, W1⟩ : View.Piece (Elt Ideal) S2x256x1536 .bf16), ⟨r0_2, W0⟩] (ix3 1 d r) = W1 (ix3 0 d r) := by
  have e : (ix3 1 d r : S2x256x1536.Idx) = r0_3.emb (ix3 0 d r) := by
    funext a; apply Fin.ext
    match a with
    | ⟨0, _⟩ => rfl
    | ⟨1, _⟩ => show d.val = 0 + 1 * d.val; omega
    | ⟨2, _⟩ => show r.val = 0 + 1 * r.val; omega
  exact (congrArg _ e).trans (View.canon_cons_emb _ _ _ _)

theorem ldx (x : Vec Ideal S1536x256 .bf16) : View.ld x r0_0 = x :=
  View.ld_unit_zero (S := S1536x256) (by funext a; fin_cases a <;> rfl) _ x
theorem lds (s : Vec Ideal S1536x1 .f32) : View.ld s r0_1 = s :=
  View.ld_unit_zero (S := S1536x1) (by funext a; fin_cases a <;> rfl) _ s

/-- The scaled block at a point, in slab 0. -/
theorem out0_at0 (x : Vec Ideal S1536x256 .bf16) (s : Vec Ideal S1536x1 .f32) (d : Fin 256) (r : Fin 1536) :
    (out0_2 x s (ix3 0 d r) : EReal) = (x (ix2 r d) : EReal) * s (ix2 r 0) := by
  unfold out0_2
  rw [ldx, lds]
  exact (canon0_at0 _ _ d r).trans (pay3_apply x s d r)

/-- The scaled block of previous rows at a point, in slab 1. -/
theorem out0_at1 (x : Vec Ideal S1536x256 .bf16) (s : Vec Ideal S1536x1 .f32) (d : Fin 256) (r : Fin 1536) :
    (out0_2 x s (ix3 1 d r) : EReal) = (if r.val % 768 = 0 then 0 else (x (ix2 (prv r) d) : EReal)) * s (ix2 r 0) := by
  unfold out0_2
  rw [ldx, lds]
  exact (canon0_at1 _ _ d r).trans (pay4_apply x s d r)

/-! ## The second call -/

/-- The product of a [3584,1536] and a [1536,256] matrix at an index. -/
theorem dot_apply (a : FVec Ideal S3584x1536 .bf16) (b : FVec Ideal S1536x256 .fp8e5m2) (acc : FVec Ideal S3584x256 .f32)
    (t : Fin 3584) (c : Fin 256) :
    matmul dot_S3584x1536_S1536x256_S3584x256_1_0_0_1_n_n none a b acc (ix2 t c)
      = acc (ix2 t c) + ∑ o : Fin 1536, a (ix2 t o) * b (ix2 o c) := by
  show acc (ix2 t c) + ∑ k : dot_S3584x1536_S1536x256_S3584x256_1_0_0_1_n_n.contr.Idx, _ = _
  congr 1
  rw [← (contrEquiv1 dot_S3584x1536_S1536x256_S3584x256_1_0_0_1_n_n 1536 rfl rfl).symm.sum_comp]
  refine Finset.sum_congr rfl fun o _ => ?_
  congr 2
  · funext d; fin_cases d <;> rfl
  · funext d; fin_cases d <;> rfl

theorem pay1_apply (a : Vec Ideal S1x3584x1536 .bf16) (b : Vec Ideal S1x1536x256 .fp8e5m2) (c : Fin 3584) (o : Fin 256) :
    (k1_pay1 a b (ix4 0 0 c o) : EReal) = ∑ r : Fin 1536, (a (ix3 0 c r) : EReal) * b (ix3 0 r o) := by
  unfold k1_pay1
  refine (shapeCast_apply _ shapeCasts_S3584x256_S1x1x3584x256 (ix4 0 0 c o) (ix2 c o) ?_).trans ((dot_apply _ _ _ c o).trans ?_)
  · rewrite [Shape.rowMajor_val_two, Shape.rowMajor_val_four]
    show c.val * 256 + o.val = ((0 * 1 + 0) * 3584 + c.val) * 256 + o.val
    omega
  · pointwise

theorem pay2_eq (a : Vec Ideal S1x3584x1536 .bf16) (b : Vec Ideal S1x1536x256 .fp8e5m2) : k1_pay2 a b = k1_pay1 a b := rfl

theorem ldx0 (x : Vec Ideal S2x3584x1536 .bf16) (c : Fin 3584) (r : Fin 1536) : View.ld x r1_0 (ix3 0 c r) = x (ix3 0 c r) := by
  pointwise
theorem ldx1 (x : Vec Ideal S2x3584x1536 .bf16) (c : Fin 3584) (r : Fin 1536) : View.ld x r1_3 (ix3 0 c r) = x (ix3 1 c r) := by
  pointwise

/-- Slab 1 does not hold the indices of slab 0. -/
theorem notin1 (y : S2x1x3584x256.Idx) (h : (y 0).val = 0) : y ∉ r1_4.set := by
  rw [Rect.mem_set_unit]
  intro hm
  have h1 : 1 ≤ (y 0).val := (hm 0).1
  omega

/-- A store into slab 1 leaves slab 0 as it was. -/
theorem skip1 (W1 : S1x1x3584x256.Idx → Elt Ideal .f32) (L : List (View.Piece (Elt Ideal) S2x1x3584x256 .f32)) (y : S2x1x3584x256.Idx) (h : (y 0).val = 0) :
    View.canon ((⟨r1_4, W1⟩ : View.Piece (Elt Ideal) S2x1x3584x256 .f32) :: L) y = View.canon L y := by
  rw [View.canon_cons_of_not_mem]
  exact notin1 y h

/-- What the two slab stores leave, in slab 0. -/
theorem canon1_at0 (W1 W0 : S1x1x3584x256.Idx → Elt Ideal .f32) (c : Fin 3584) (o : Fin 256) :
    View.canon [(⟨r1_4, W1⟩ : View.Piece (Elt Ideal) S2x1x3584x256 .f32), ⟨r1_2, W0⟩] (ix4 0 0 c o) = W0 (ix4 0 0 c o) := by
  refine (skip1 W1 _ (ix4 0 0 c o) rfl).trans ?_
  have e : (ix4 0 0 c o : S2x1x3584x256.Idx) = r1_2.emb (ix4 0 0 c o) := by
    funext a; apply Fin.ext
    match a with
    | ⟨0, _⟩ => rfl
    | ⟨1, _⟩ => rfl
    | ⟨2, _⟩ => show c.val = 0 + 1 * c.val; omega
    | ⟨3, _⟩ => show o.val = 0 + 1 * o.val; omega
  exact (congrArg _ e).trans (View.canon_cons_emb _ _ _ _)

/-- What the two slab stores leave, in slab 1. -/
theorem canon1_at1 (W1 W0 : S1x1x3584x256.Idx → Elt Ideal .f32) (c : Fin 3584) (o : Fin 256) :
    View.canon [(⟨r1_4, W1⟩ : View.Piece (Elt Ideal) S2x1x3584x256 .f32), ⟨r1_2, W0⟩] (ix4 1 0 c o) = W1 (ix4 0 0 c o) := by
  have e : (ix4 1 0 c o : S2x1x3584x256.Idx) = r1_4.emb (ix4 0 0 c o) := by
    funext a; apply Fin.ext
    match a with
    | ⟨0, _⟩ => rfl
    | ⟨1, _⟩ => rfl
    | ⟨2, _⟩ => show c.val = 0 + 1 * c.val; omega
    | ⟨3, _⟩ => show o.val = 0 + 1 * o.val; omega
  exact (congrArg _ e).trans (View.canon_cons_emb _ _ _ _)

theorem ldg (g : Vec Ideal S1x1536x256 .fp8e5m2) : View.ld g r1_1 = g :=
  View.ld_unit_zero (S := S1x1536x256) (by funext a; fin_cases a <;> rfl) _ g

theorem out1_at0 (g : Vec Ideal S1x1536x256 .fp8e5m2) (x : Vec Ideal S2x3584x1536 .bf16) (c : Fin 3584) (o : Fin 256) :
    (out1_2 g x (ix4 0 0 c o) : EReal) = ∑ r : Fin 1536, (x (ix3 0 c r) : EReal) * g (ix3 0 r o) := by
  unfold out1_2
  rw [ldg]
  exact (canon1_at0 _ _ c o).trans ((pay1_apply _ g c o).trans
    (Finset.sum_congr rfl fun r _ => congrArg (fun z : EReal => z * g (ix3 0 r o)) (ldx0 x c r)))

theorem out1_at1 (g : Vec Ideal S1x1536x256 .fp8e5m2) (x : Vec Ideal S2x3584x1536 .bf16) (c : Fin 3584) (o : Fin 256) :
    (out1_2 g x (ix4 1 0 c o) : EReal) = ∑ r : Fin 1536, (x (ix3 1 c r) : EReal) * g (ix3 0 r o) := by
  unfold out1_2
  rw [ldg, pay2_eq]
  exact (canon1_at1 _ _ c o).trans ((pay1_apply _ g c o).trans
    (Finset.sum_congr rfl fun r _ => congrArg (fun z : EReal => z * g (ix3 0 r o)) (ldx1 x c r)))

/-- The product at a point, in slab `j`. -/
theorem out1_at (g : Vec Ideal S1x1536x256 .fp8e5m2) (x : Vec Ideal S2x3584x1536 .bf16) (j : Fin 2) (c : Fin 3584) (o : Fin 256) :
    (out1_2 g x (ix4 j 0 c o) : EReal) = ∑ r : Fin 1536, (x (ix3 j c r) : EReal) * g (ix3 0 r o) := by
  match j with
  | ⟨0, _⟩ => exact out1_at0 g x c o
  | ⟨1, _⟩ => exact out1_at1 g x c o

end Cert.DwIdeal.Hand
-- ==== Proof.DwXt.lean ====
/-
  What the first dw call leaves, at the ideal instance: the scaled activations of both taps, transposed.
-/
module
public import proofs.«01_k».proof.Proof.DwStep
public import Idealize.ShloMosaic.Lib.StableHlo.Run
@[expose] public section
set_option maxRecDepth 16384
noncomputable section
open Idealize.ShloMosaic Idealize.ShloMosaic.TcCoe Idealize.SL.Sem
namespace Cert.DwIdeal.Hand
open Cert.DwIdeal Cert.DwIdeal.Gen
open Cert.DxForm (sqn pl)
open Cert.DwForm (xs prv)

variable (m : (ℓ : Loc nD τ sig) → Buf (Elt Ideal) ℓ) (ρ : Dev nD → PrngReg)

/-- The arguments, as index functions. -/
def xA (c : Dev nD) (b : Fin 2) (t : Fin 768) (d : Fin 3584) : EReal := m ((c : Thread nD τ).loc main_arg0) (ix3 b t d)
def gA (c : Dev nD) (p : Fin 8) (r : Fin 1536) (o : Fin 1792) : EReal := m ((c : Thread nD τ).loc main_arg1) (ix3 p r o)
def sA (c : Dev nD) (b : Fin 2) (t : Fin 768) : EReal := m ((c : Thread nD τ).loc main_arg2) (ix2 b t)

/-- The host's reshape of the row scales. -/
theorem V_v0 (c : Dev nD) : V1 m ρ c main_v0 = shapeCast S1536x1 (m ((c : Thread nD τ).loc main_arg2)) shapeCasts_S2x768_S1536x1 := by
  show StableHlo.after hostOps0 (W0 m ρ c) (Proc.devRef .tc main_v0) = _
  after_results; rfl
/-- The host's reshape of the activations. -/
theorem V_v1 (c : Dev nD) : V1 m ρ c main_v1 = shapeCast S1536x3584 (m ((c : Thread nD τ).loc main_arg0)) shapeCasts_S2x768x3584_S1536x3584 := by
  show StableHlo.after hostOps0 (W0 m ρ c) (Proc.devRef .tc main_v1) = _
  after_results; rfl

/-- The windows' block indices over the grid. -/
theorem idx0 : ∀ t : Fin cfg0.N,
    win0_0.index t = ![0, t.val] ∧ win0_1.index t = ![0, 0] ∧ win0_2.index t = ![0, t.val, 0] :=
  (by decide +kernel : ∀ t : Fin grid0.N, _)

/-- The activation column that column `d` of a point's block is. -/
abbrev col0 (t : Fin cfg0.N) (d : Fin 256) : Fin 3584 :=
  ⟨256 * t.val + d.val, by have h := lt_of_lt_of_eq t.isLt (show cfg0.N = 14 from N_0); have := d.isLt; omega⟩

theorem iblk0_0 (c : Dev nD) (t : Fin cfg0.N) (r : Fin 1536) (d : Fin 256) :
    (iblk0 (V1 m ρ) c 0 t (ix2 r d) : EReal) = xA m c (sqn r) (pl r) (col0 t d) := by
  obtain ⟨e, -, -⟩ := idx0 t
  have e0 := congrFun e 0; have e1 := congrFun e 1
  have hr := r.isLt; have hd := d.isLt
  show V1 m ρ c main_v1 (((cfg0.win 0).blk t).view.emb (ix2 r d)) = _
  have hx : ((cfg0.win 0).blk t).view.emb (ix2 r d) = (ix2 r (col0 t d) : S1536x3584.Idx) := by
    refine funext fun a => Fin.ext ?_
    match a with
    | ⟨0, _⟩ => show win0_0.index t 0 * 1536 + 1 * r.val = r.val; rw [e0]; show 0 * 1536 + 1 * r.val = _; omega
    | ⟨1, _⟩ => show win0_0.index t 1 * 256 + 1 * d.val = 256 * t.val + d.val; rw [e1]; show t.val * 256 + 1 * d.val = _; omega
  rw [hx, V_v1]
  refine shapeCast_apply _ shapeCasts_S2x768x3584_S1536x3584 _ _ ?_
  rewrite [Shape.rowMajor_val_three, Shape.rowMajor_val_two]
  show (r.val / 768 * 768 + r.val % 768) * 3584 + (256 * t.val + d.val) = r.val * 3584 + (256 * t.val + d.val)
  omega

theorem iblk0_1 (c : Dev nD) (t : Fin cfg0.N) (r : Fin 1536) :
    (iblk0 (V1 m ρ) c 1 t (ix2 r 0) : EReal) = sA m c (sqn r) (pl r) := by
  obtain ⟨-, e, -⟩ := idx0 t
  have e0 := congrFun e 0; have e1 := congrFun e 1
  show V1 m ρ c main_v0 (((cfg0.win 1).blk t).view.emb (ix2 r 0)) = _
  have hx : ((cfg0.win 1).blk t).view.emb (ix2 r 0) = (ix2 r 0 : S1536x1.Idx) := by
    refine funext fun a => Fin.ext ?_
    match a with
    | ⟨0, _⟩ => show win0_1.index t 0 * 1536 + 1 * r.val = r.val; rw [e0]; show 0 * 1536 + 1 * r.val = _; omega
    | ⟨1, _⟩ => show win0_1.index t 1 * 1 + 1 * 0 = 0; rw [e1]; rfl
  rw [hx, V_v0]
  refine shapeCast_apply _ shapeCasts_S2x768_S1536x1 _ _ ?_
  rewrite [Shape.rowMajor_val_two, Shape.rowMajor_val_two]
  show r.val / 768 * 768 + r.val % 768 = r.val * 1 + 0
  omega

/-- The closed form of the array the first call leaves. -/
def xt (c : Dev nD) : S2x3584x1536.Idx → EReal := fun y =>
  xs (xA m c) (y 0) (y 2) (y 1) * sA m c (sqn (y 2)) (pl (y 2))

/-- A point's block, at an index. -/
theorem out0_at (c : Dev nD) (t : Fin cfg0.N) (j : Fin 2) (d : Fin 256) (r : Fin 1536) :
    (out0_2 (iblk0 (V1 m ρ) c 0 t) (iblk0 (V1 m ρ) c 1 t) (ix3 j d r) : EReal) = xt m c (ix3 j (col0 t d) r) := by
  match j with
  | ⟨0, _⟩ =>
    refine (out0_at0 _ _ d r).trans ?_
    exact congrArg₂ (fun a b : EReal => a * b) (iblk0_0 m ρ c t r d) (iblk0_1 m ρ c t r)
  | ⟨1, _⟩ =>
    refine (out0_at1 _ _ d r).trans ?_
    refine congrArg₂ (fun a b : EReal => a * b) ?_ (iblk0_1 m ρ c t r)
    refine Eq.trans ?_ (if_neg (show ¬(1 : Fin 2) = 0 by decide)).symm
    rw [iblk0_0]
    rfl

theorem emb0_2 (t : Fin cfg0.N) (j : Fin 2) (d : Fin 256) (r : Fin 1536) :
    ((cfg0.win 2).blk t).view.emb (ix3 j d r) = (ix3 j (col0 t d) r : S2x3584x1536.Idx) := by
  obtain ⟨-, -, e⟩ := idx0 t
  have e0 := congrFun e 0; have e1 := congrFun e 1; have e2 := congrFun e 2
  refine funext fun a => Fin.ext ?_
  match a with
  | ⟨0, _⟩ => show win0_2.index t 0 * 2 + 1 * j.val = j.val; rw [e0]; show 0 * 2 + 1 * j.val = _; omega
  | ⟨1, _⟩ => show win0_2.index t 1 * 256 + 1 * d.val = 256 * t.val + d.val; rw [e1]; show t.val * 256 + 1 * d.val = _; omega
  | ⟨2, _⟩ => show win0_2.index t 2 * 1536 + 1 * r.val = r.val; rw [e2]; show 0 * 1536 + 1 * r.val = _; omega

theorem ex_blk (y : S2x256x1536.Idx) : ∃ (j : Fin 2) (d : Fin 256) (r : Fin 1536), y = ix3 j d r :=
  ⟨y 0, y 1, y 2, by funext a; fin_cases a <;> rfl⟩
theorem ex_arr (y : S2x3584x1536.Idx) : ∃ (j : Fin 2) (d : Fin 3584) (r : Fin 1536), y = ix3 j d r :=
  ⟨y 0, y 1, y 2, by funext a; fin_cases a <;> rfl⟩

/-- The array the first call leaves. -/
theorem arr0 (c : Dev nD) : ((dat0 (V1 m ρ) c).arrAt 2 cfg0.N : S2x3584x1536.Idx → EReal) = xt m c := by
  refine (dat0 (V1 m ρ) c).arrAt_eq_of_cover 2 (xt m c) ?_ ?_
  · intro t _
    show (cfg0.win 2).cut _ ((dat0 (V1 m ρ) c).after 2 t) = _
    rw [after0_2]
    funext y
    show out0_2 (iblk0 (V1 m ρ) c 0 t) (iblk0 (V1 m ρ) c 1 t) y = xt m c (((cfg0.win 2).blk t).view.emb y)
    obtain ⟨j, d, r, hy⟩ := ex_blk y
    rw [hy]
    exact (out0_at m ρ c t j d r).trans (congrArg (xt m c) (emb0_2 t j d r).symm)
  · intro i
    obtain ⟨j, d, r, hi⟩ := ex_arr i
    have hd := d.isLt
    have ht : d.val / 256 < cfg0.N := by rw [show cfg0.N = 14 from N_0]; omega
    refine ⟨⟨d.val / 256, ht⟩, flush0_2 _, ?_⟩
    have e := emb0_2 ⟨d.val / 256, ht⟩ j ⟨d.val % 256, Nat.mod_lt _ (by decide)⟩ r
    have hc : col0 ⟨d.val / 256, ht⟩ ⟨d.val % 256, Nat.mod_lt _ (by decide)⟩ = d :=
      Fin.ext (by show 256 * (d.val / 256) + d.val % 256 = d.val; omega)
    rw [hc] at e
    exact (e.trans hi.symm) ▸ ((cfg0.win 2).blk ⟨d.val / 256, ht⟩).view.emb_mem_set _

end Cert.DwIdeal.Hand
-- ==== Proof.DwValue.lean ====
/-
  The dw kernel's run at the ideal instance, its result in the closed form of `DwForm`.
-/
module
public import proofs.«01_k».proof.Proof.DwXt
@[expose] public section
set_option maxRecDepth 16384
noncomputable section
open Idealize.ShloMosaic Idealize.ShloMosaic.TcCoe
open Idealize.SL Idealize.SL.RA Idealize.SL.BI
open Idealize.ShloMosaic.Tactic Idealize.ShloMosaic.Rounds
open scoped Idealize.SL.BI
open Idealize.SL.BI.BIBase Idealize.SL.BI.Laws Idealize.SL.ProofMode Idealize.SL.Sem
namespace Cert.DwIdeal.Hand
open Cert.DwIdeal Cert.DwIdeal.Gen

local notation "𝕄" => MT nD τ sig Unit (Elt Ideal) ℕ (UR sig nD τ) ℕ

variable (m : (ℓ : Loc nD τ sig) → Buf (Elt Ideal) ℓ) (ρ : Dev nD → PrngReg)

/-- The windows' block indices over the grid. -/
theorem idx1 : ∀ t : Fin cfg1.N,
    win1_0.index t = ![t.val / 7, 0, t.val % 7] ∧ win1_1.index t = ![0, 0, 0] ∧ win1_2.index t = ![0, t.val / 7, 0, t.val % 7] :=
  (by decide +kernel : ∀ t : Fin grid1.N, _)

/-- A point's phase, and the gradient column that column `o` of its block is. -/
abbrev ph1 (t : Fin cfg1.N) : Fin 8 :=
  ⟨t.val / 7, by have h := lt_of_lt_of_eq t.isLt (show cfg1.N = 56 from N_1); omega⟩
abbrev col1 (t : Fin cfg1.N) (o : Fin 256) : Fin 1792 :=
  ⟨256 * (t.val % 7) + o.val, by have := o.isLt; omega⟩

theorem iblk1_0 (c : Dev nD) (t : Fin cfg1.N) (r : Fin 1536) (o : Fin 256) :
    (iblk1 (V2 m ρ) c 0 t (ix3 0 r o) : EReal) = gA m c (ph1 t) r (col1 t o) := by
  obtain ⟨e, -, -⟩ := idx1 t
  have e0 := congrFun e 0; have e1 := congrFun e 1; have e2 := congrFun e 2
  show V2 m ρ c main_arg1 (((cfg1.win 0).blk t).view.emb (ix3 0 r o)) = _
  have hx : ((cfg1.win 0).blk t).view.emb (ix3 0 r o) = (ix3 (ph1 t) r (col1 t o) : S8x1536x1792.Idx) := by
    refine funext fun a => Fin.ext ?_
    match a with
    | ⟨0, _⟩ => show win1_0.index t 0 * 1 + 1 * 0 = t.val / 7; rw [e0]; show t.val / 7 * 1 + 1 * 0 = _; omega
    | ⟨1, _⟩ => show win1_0.index t 1 * 1536 + 1 * r.val = r.val; rw [e1]; show 0 * 1536 + 1 * r.val = _; omega
    | ⟨2, _⟩ => show win1_0.index t 2 * 256 + 1 * o.val = 256 * (t.val % 7) + o.val; rw [e2]; show t.val % 7 * 256 + 1 * o.val = _; omega
  rw [hx]
  exact congrFun (W2_args m ρ c main_arg1 (by decide)) (ix3 (ph1 t) r (col1 t o))

theorem iblk1_1 (c : Dev nD) (t : Fin cfg1.N) (j : Fin 2) (d : Fin 3584) (r : Fin 1536) :
    (iblk1 (V2 m ρ) c 1 t (ix3 j d r) : EReal) = xt m c (ix3 j d r) := by
  obtain ⟨-, e, -⟩ := idx1 t
  have e0 := congrFun e 0; have e1 := congrFun e 1; have e2 := congrFun e 2
  show V2 m ρ c main_v2 (((cfg1.win 1).blk t).view.emb (ix3 j d r)) = _
  have hx : ((cfg1.win 1).blk t).view.emb (ix3 j d r) = (ix3 j d r : S2x3584x1536.Idx) := by
    refine funext fun a => Fin.ext ?_
    match a with
    | ⟨0, _⟩ => show win1_1.index t 0 * 2 + 1 * j.val = j.val; rw [e0]; show 0 * 2 + 1 * j.val = _; omega
    | ⟨1, _⟩ => show win1_1.index t 1 * 3584 + 1 * d.val = d.val; rw [e1]; show 0 * 3584 + 1 * d.val = _; omega
    | ⟨2, _⟩ => show win1_1.index t 2 * 1536 + 1 * r.val = r.val; rw [e2]; show 0 * 1536 + 1 * r.val = _; omega
  rw [hx]
  exact congrFun ((W2_arr m ρ c 2).trans (arr0 m ρ c)) (ix3 j d r)

/-- The closed form of the result. -/
def dw (c : Dev nD) : S2x8x3584x1792.Idx → EReal := fun y => DwForm.res (xA m c) (gA m c) (sA m c) (y 0) (y 1) (y 2) (y 3)

theorem emb1_2 (t : Fin cfg1.N) (j : Fin 2) (d : Fin 3584) (o : Fin 256) :
    ((cfg1.win 2).blk t).view.emb (ix4 j 0 d o) = (ix4 j (ph1 t) d (col1 t o) : S2x8x3584x1792.Idx) := by
  obtain ⟨-, -, e⟩ := idx1 t
  have e0 := congrFun e 0; have e1 := congrFun e 1; have e2 := congrFun e 2; have e3 := congrFun e 3
  refine funext fun a => Fin.ext ?_
  match a with
  | ⟨0, _⟩ => show win1_2.index t 0 * 2 + 1 * j.val = j.val; rw [e0]; show 0 * 2 + 1 * j.val = _; omega
  | ⟨1, _⟩ => show win1_2.index t 1 * 1 + 1 * 0 = t.val / 7; rw [e1]; show t.val / 7 * 1 + 1 * 0 = _; omega
  | ⟨2, _⟩ => show win1_2.index t 2 * 3584 + 1 * d.val = d.val; rw [e2]; show 0 * 3584 + 1 * d.val = _; omega
  | ⟨3, _⟩ => show win1_2.index t 3 * 256 + 1 * o.val = 256 * (t.val % 7) + o.val; rw [e3]; show t.val % 7 * 256 + 1 * o.val = _; omega

theorem ex_blk1 (y : S2x1x3584x256.Idx) : ∃ (j : Fin 2) (d : Fin 3584) (o : Fin 256), y = ix4 j 0 d o := by
  refine ⟨y 0, y 2, y 3, ?_⟩
  funext a
  match a with
  | ⟨0, _⟩ => rfl
  | ⟨1, _⟩ => exact Fin.ext (by have h : (y 1).val < 1 := (y 1).isLt; show (y 1).val = 0; omega)
  | ⟨2, _⟩ => rfl
  | ⟨3, _⟩ => rfl
theorem ex_arr1 (y : S2x8x3584x1792.Idx) : ∃ (j : Fin 2) (p : Fin 8) (d : Fin 3584) (o : Fin 1792), y = ix4 j p d o :=
  ⟨y 0, y 1, y 2, y 3, by funext a; fin_cases a <;> rfl⟩

/-- A point's block, at an index. -/
theorem out1_res (c : Dev nD) (t : Fin cfg1.N) (j : Fin 2) (d : Fin 3584) (o : Fin 256) :
    (out1_2 (iblk1 (V2 m ρ) c 0 t) (iblk1 (V2 m ρ) c 1 t) (ix4 j 0 d o) : EReal) = dw m c (ix4 j (ph1 t) d (col1 t o)) := by
  refine (out1_at _ _ j d o).trans ?_
  exact Finset.sum_congr rfl fun r _ => congrArg₂ (fun a b : EReal => a * b) (iblk1_1 m ρ c t j d r) (iblk1_0 m ρ c t r o)

/-- The array the second call leaves. -/
theorem arr1 (c : Dev nD) : ((dat1 (V2 m ρ) c).arrAt 2 cfg1.N : S2x8x3584x1792.Idx → EReal) = dw m c := by
  refine (dat1 (V2 m ρ) c).arrAt_eq_of_cover 2 (dw m c) ?_ ?_
  · intro t _
    show (cfg1.win 2).cut _ ((dat1 (V2 m ρ) c).after 2 t) = _
    rw [after1_2]
    funext y
    show out1_2 (iblk1 (V2 m ρ) c 0 t) (iblk1 (V2 m ρ) c 1 t) y = dw m c (((cfg1.win 2).blk t).view.emb y)
    obtain ⟨j, d, o, hy⟩ := ex_blk1 y
    rw [hy]
    exact (out1_res m ρ c t j d o).trans (congrArg (dw m c) (emb1_2 t j d o).symm)
  · intro i
    obtain ⟨j, p, d, o, hi⟩ := ex_arr1 i
    have hp := p.isLt
    have ho := o.isLt
    have ht : 7 * p.val + o.val / 256 < cfg1.N := by rw [show cfg1.N = 56 from N_1]; omega
    refine ⟨⟨7 * p.val + o.val / 256, ht⟩, flush1_2 _, ?_⟩
    have e := emb1_2 ⟨7 * p.val + o.val / 256, ht⟩ j d ⟨o.val % 256, Nat.mod_lt _ (by decide)⟩
    have hq : ph1 ⟨7 * p.val + o.val / 256, ht⟩ = p := Fin.ext (by show (7 * p.val + o.val / 256) / 7 = p.val; omega)
    have hc : col1 ⟨7 * p.val + o.val / 256, ht⟩ ⟨o.val % 256, Nat.mod_lt _ (by decide)⟩ = o :=
      Fin.ext (by show 256 * ((7 * p.val + o.val / 256) % 7) + o.val % 256 = o.val; omega)
    rw [hq, hc] at e
    exact (e.trans hi.symm) ▸ ((cfg1.win 2).blk ⟨7 * p.val + o.val / 256, ht⟩).view.emb_mem_set _

-- as in the frame: the launch lemma's implicit arguments are found by unifying its conclusion with this one
set_option backward.isDefEq.respectTransparency.types false in
/-- The kernel's run with its result: the frame's launch, read at the result array also. -/
theorem run : θ_run defs (onTc (τ := τ) (main (F := Ideal))) ⟨m, fun _ => 0, ρ⟩ (fun r => ∀ c : Dev nD,
      r.2.mem ((c.tc : Thread nD τ).loc main_v3) = dw m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => fun c =>
      ⟨(h c _ (mem_uc main_v3 (by decide))).trans ((W3_arr m ρ c 2).trans (arr1 m ρ c)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

end Cert.DwIdeal.Hand
-- ==== Proof.DwRefValue.lean ====
/-
  The dw reference's result at the ideal instance, in the closed form of `DwForm`.
-/
module
public import proofs.«01_k».proof.Proof.Gen.DwRefIdeal.Read
public import proofs.«01_k».proof.Proof.DwForm
public import Idealize.ShloMosaic.Lib.TwoAxisContraction
public import Idealize.ShloMosaic.Lib.Pipeline.Value
public import Idealize.ShloMosaic.Lib.ValueIdx
public import Idealize.ShloMosaic.Lib.Pointwise
@[expose] public section
set_option maxRecDepth 16384
noncomputable section
open Idealize.ShloMosaic Idealize.ShloMosaic.TcCoe Idealize.SL.Sem
open Idealize.ShloMosaic.ValueIdx (contrEquiv2 sum_contr2)
namespace Cert.DwRefIdeal.Hand
open Cert.DwRefIdeal Cert.DwRefIdeal.Gen Cert.DwRefIdeal.Read
open Cert.DwForm (row up dn)

variable (m : (ℓ : Loc nD τ sig) → Buf (Elt Ideal) ℓ) (ρ : Dev nD → PrngReg)

/-! ## The widening call: a widened code is the number it stands for -/

theorem out1 (x0 : Vec Ideal S8x1536x1792 .fp8e5m2) : out0_1 x0 = x0 := by
  unfold out0_1
  rw [View.canon_unit_zero (S := S8x1536x1792)]
  unfold k0_pay1
  rw [View.ld_unit_zero (S := S8x1536x1792)]
  · rfl
  all_goals (funext a; fin_cases a <;> rfl)

theorem emb0 (t : Fin cfg0.N) (i : S8x1536x1792.Idx) : ((cfg0.win 0).blk t).view.emb i = i := by
  funext a; apply Fin.ext
  show 0 * _ + 1 * (i a).val = (i a).val
  omega
theorem emb1 (t : Fin cfg0.N) (i : S8x1536x1792.Idx) : ((cfg0.win 1).blk t).view.emb i = i := by
  funext a; apply Fin.ext
  show 0 * _ + 1 * (i a).val = (i a).val
  omega

/-- The widened phase planes are the phase planes. -/
theorem reg0 (c : Dev nD) : (Value.reg_main_v0 m c : S8x1536x1792.Idx → EReal) = m ((c : Thread nD τ).loc main_arg1) := by
  have hf : (dats m 0 c).arrAt 1 cfg0.N = (fun i => m ((c : Thread nD τ).loc main_arg1) i : S8x1536x1792.Idx → EReal) := by
    refine (dats m 0 c).arrAt_eq_of_cover 1 _ ?_ ?_
    · intro t _
      show (cfg0.win 1).cut _ ((dats m 0 c).after 1 t) = _
      rw [after0_1, out1]
      funext y
      show V m c main_arg1 (((cfg0.win 0).blk t).view.emb y) = m ((c : Thread nD τ).loc main_arg1) (((cfg0.win 1).blk t).view.emb y)
      exact congrArg (m ((c : Thread nD τ).loc main_arg1)) ((emb0 t y).trans (emb1 t y).symm)
    · intro i
      refine ⟨⟨0, by decide⟩, flush0_1 _, ?_⟩
      exact (emb1 ⟨0, by decide⟩ i) ▸ ((cfg0.win 1).blk ⟨0, by decide⟩).view.emb_mem_set i
  exact hf

/-! ## The two products at an index -/

theorem dot768 (lhs : FVec Ideal S2x768x8x1792 .bf16) (rhs : FVec Ideal S2x768x3584 .bf16) (p : Fin 8) (o : Fin 1792) (d : Fin 3584) :
    ((Host.dotGeneral dot_S2x768x8x1792_S2x768x3584_S8x1792x3584_01_01_23_2_n_n none lhs rhs : FVec Ideal S8x1792x3584 .f32) (ix3 p o d) : EReal)
      = ∑ b : Fin 2, ∑ t : Fin 768, (lhs (ix4 b t p o) : EReal) * rhs (ix3 b t d) := by
  refine (Ideal.dotGeneral_apply dot_S2x768x8x1792_S2x768x3584_S8x1792x3584_01_01_23_2_n_n none _ lhs rhs (ix3 p o d)).trans ?_
  refine (sum_contr2 dot_S2x768x8x1792_S2x768x3584_S8x1792x3584_01_01_23_2_n_n 2 768 rfl rfl rfl _).trans ?_
  refine Finset.sum_congr rfl fun b _ => Finset.sum_congr rfl fun t _ => ?_
  refine congrArg₂ (fun a b : EReal => a * b) (congrArg lhs (funext fun a => Fin.ext ?_)) (congrArg rhs (funext fun a => Fin.ext ?_))
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl

theorem dot767 (lhs : FVec Ideal S2x767x8x1792 .bf16) (rhs : FVec Ideal S2x767x3584 .bf16) (p : Fin 8) (o : Fin 1792) (d : Fin 3584) :
    ((Host.dotGeneral dot_S2x767x8x1792_S2x767x3584_S8x1792x3584_01_01_23_2_n_n none lhs rhs : FVec Ideal S8x1792x3584 .f32) (ix3 p o d) : EReal)
      = ∑ b : Fin 2, ∑ t : Fin 767, (lhs (ix4 b t p o) : EReal) * rhs (ix3 b t d) := by
  refine (Ideal.dotGeneral_apply dot_S2x767x8x1792_S2x767x3584_S8x1792x3584_01_01_23_2_n_n none _ lhs rhs (ix3 p o d)).trans ?_
  refine (sum_contr2 dot_S2x767x8x1792_S2x767x3584_S8x1792x3584_01_01_23_2_n_n 2 767 rfl rfl rfl _).trans ?_
  refine Finset.sum_congr rfl fun b _ => Finset.sum_congr rfl fun t _ => ?_
  refine congrArg₂ (fun a b : EReal => a * b) (congrArg lhs (funext fun a => Fin.ext ?_)) (congrArg rhs (funext fun a => Fin.ext ?_))
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl

/-! ## The operands at an index -/

variable (x0 : Vec Ideal S2x768x3584 .bf16) (x2 : Vec Ideal S2x768 .f32) (r0 : Vec Ideal S8x1536x1792 .bf16)

theorem v2_apply (b : Fin 2) (t : Fin 768) (p : Fin 8) (o : Fin 1792) :
    val_main_v2 (F := Ideal) r0 (ix4 b t p o) = r0 (ix3 p (row b t) o) := by
  have hb := b.isLt; have ht := t.isLt; have hp := p.isLt; have ho := o.isLt
  rw [val_main_v2_apply, val_main_v1_apply]
  refine congrArg r0 (funext fun a => Fin.ext ?_)
  match a with
  | ⟨0, _⟩ => show (((p.val * 2 + b.val) * 768 + t.val) * 1792 + o.val) / 2752512 = p.val; omega
  | ⟨1, _⟩ => show (((p.val * 2 + b.val) * 768 + t.val) * 1792 + o.val) / 1792 % 1536 = 768 * b.val + t.val; omega
  | ⟨2, _⟩ => show (((p.val * 2 + b.val) * 768 + t.val) * 1792 + o.val) % 1792 = o.val; omega

theorem v6_apply (b : Fin 2) (t : Fin 768) (p : Fin 8) (o : Fin 1792) :
    (val_main_v6 (F := Ideal) x2 r0 (ix4 b t p o) : EReal) = (r0 (ix3 p (row b t) o) : EReal) * x2 (ix2 b t) := by
  rw [val_main_v6_apply, val_main_v5_apply, val_main_v4_apply, val_main_v3_apply]
  refine congrArg₂ (fun a b : EReal => a * b) (v2_apply r0 b t p o) (congrArg x2 (funext fun a => Fin.ext ?_))
  match a with
  | ⟨0, _⟩ => rfl
  | ⟨1, _⟩ => rfl

theorem v10_apply (b : Fin 2) (t : Fin 767) (p : Fin 8) (o : Fin 1792) :
    (val_main_v10 (F := Ideal) x2 r0 (ix4 b t p o) : EReal) = (r0 (ix3 p (row b (up t)) o) : EReal) * x2 (ix2 b (up t)) := by
  rw [val_main_v10_apply, ← v6_apply x2 r0 b (up t) p o]
  refine congrArg _ (funext fun a => Fin.ext ?_)
  match a with
  | ⟨0, _⟩ => rfl
  | ⟨1, _⟩ => rfl
  | ⟨2, _⟩ => rfl
  | ⟨3, _⟩ => rfl

theorem v9_apply (b : Fin 2) (t : Fin 767) (d : Fin 3584) :
    val_main_v9 (F := Ideal) x0 (ix3 b t d) = x0 (ix3 b (dn t) d) := by
  rw [val_main_v9_apply]
  refine congrArg _ (funext fun a => Fin.ext ?_)
  match a with
  | ⟨0, _⟩ => rfl
  | ⟨1, _⟩ => first | rfl | exact Nat.zero_add _
  | ⟨2, _⟩ => rfl

/-! ## The two taps -/

/-- The closed form, of these operands. -/
abbrev resR (j : Fin 2) (p : Fin 8) (d : Fin 3584) (o : Fin 1792) : EReal :=
  DwForm.res (fun b t d => x0 (ix3 b t d)) (fun p r o => r0 (ix3 p r o)) (fun b t => x2 (ix2 b t)) j p d o

theorem v13_apply (p : Fin 8) (d : Fin 3584) (o : Fin 1792) :
    (val_main_v13 (F := Ideal) x0 x2 r0 (ix4 0 p d o) : EReal) = resR x0 x2 r0 0 p d o := by
  rw [val_main_v13_apply, val_main_v8_apply]
  refine Eq.trans ?_ (DwForm.res0 _ _ _ p d o).symm
  have hx : idx_main_v8 (idx_main_v13 (ix4 0 p d o)) = ix3 p o d := by
    refine funext fun a => Fin.ext ?_
    match a with
    | ⟨0, _⟩ => rfl
    | ⟨1, _⟩ => rfl
    | ⟨2, _⟩ => rfl
  rw [hx]
  refine (dot768 _ _ p o d).trans ?_
  exact Finset.sum_congr rfl fun b _ => Finset.sum_congr rfl fun t _ =>
    congrArg (fun a : EReal => a * x0 (ix3 b t d)) (v6_apply x2 r0 b t p o)

theorem v14_apply (p : Fin 8) (d : Fin 3584) (o : Fin 1792) :
    (val_main_v14 (F := Ideal) x0 x2 r0 (ix4 0 p d o) : EReal) = resR x0 x2 r0 1 p d o := by
  rw [val_main_v14_apply, val_main_v12_apply]
  refine Eq.trans ?_ (DwForm.res1 _ _ _ p d o).symm
  have hx : idx_main_v12 (idx_main_v14 (ix4 0 p d o)) = ix3 p o d := by
    refine funext fun a => Fin.ext ?_
    match a with
    | ⟨0, _⟩ => rfl
    | ⟨1, _⟩ => rfl
    | ⟨2, _⟩ => rfl
  rw [hx]
  refine (dot767 _ _ p o d).trans ?_
  exact Finset.sum_congr rfl fun b _ => Finset.sum_congr rfl fun t _ =>
    congrArg₂ (fun a b : EReal => a * b) (v10_apply x2 r0 b t p o) (v9_apply x0 b t d)

/-! ## The result -/

theorem v15_apply (j : Fin 2) (p : Fin 8) (d : Fin 3584) (o : Fin 1792) :
    (val_main_v15 (F := Ideal) x0 x2 r0 (ix4 j p d o) : EReal) = resR x0 x2 r0 j p d o := by
  unfold val_main_v15
  match j with
  | ⟨0, _⟩ =>
    refine Eq.trans ?_ (v13_apply x0 x2 r0 p d o)
    pointwise
  | ⟨1, _⟩ =>
    refine Eq.trans ?_ (v14_apply x0 x2 r0 p d o)
    pointwise

/-- The arguments, as index functions. -/
def xA (c : Dev nD) (b : Fin 2) (t : Fin 768) (d : Fin 3584) : EReal := m ((c : Thread nD τ).loc main_arg0) (ix3 b t d)
def gA (c : Dev nD) (p : Fin 8) (r : Fin 1536) (o : Fin 1792) : EReal := m ((c : Thread nD τ).loc main_arg1) (ix3 p r o)
def sA (c : Dev nD) (b : Fin 2) (t : Fin 768) : EReal := m ((c : Thread nD τ).loc main_arg2) (ix2 b t)

/-- The reference's run with its result in closed form. -/
theorem run_res : θ_run defs (onTc (τ := τ) (main (F := Ideal))) ⟨m, fun _ => 0, ρ⟩ fun r => ∀ c : Dev nD,
    (∀ j p d o, r.2.mem ((c : Thread nD τ).loc main_v15) (ix4 j p d o) = DwForm.res (xA m c) (gA m c) (sA m c) j p d o)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨fun j p d o => by
    rw [(h c).1]
    refine (v15_apply (m ((c : Thread nD τ).loc main_arg0)) (m ((c : Thread nD τ).loc main_arg2)) (Value.reg_main_v0 m c) j p d o).trans ?_
    have e0 := reg0 m c
    unfold resR
    rw [show (fun (p : Fin 8) (r : Fin 1536) (o : Fin 1792) => (Value.reg_main_v0 m c (ix3 p r o) : EReal)) = gA m c from
        funext fun p => funext fun r => funext fun o => congrFun e0 (ix3 p r o)]
    rfl, (h c).2⟩) (Value.run m ρ)

end Cert.DwRefIdeal.Hand
-- ==== Proof.DwClaims.lean ====
/-
  The dw claims: the kernel and the reference both run, and at the ideal instance they end with the same array.
-/
module
public import proofs.«01_k».proof.Defs
public import proofs.«01_k».proof.Proof.DwValue
public import proofs.«01_k».proof.Proof.DwRefValue
public import proofs.«01_k».proof.Proof.Gen.Dw.Frame
public import proofs.«01_k».proof.Proof.Gen.DwIdeal.Frame
public import proofs.«01_k».proof.Proof.Gen.DwRefIdeal.Frame
@[expose] public section
noncomputable section
open Idealize.ShloMosaic Idealize.ShloMosaic.TcCoe Idealize.SL.Sem
namespace Cert.DwClaims

instance : Cert.Dw.Facts := Cert.Dw.Gen.facts
instance : Cert.DwIdeal.Facts := Cert.DwIdeal.Gen.facts
instance : Cert.DwRefIdeal.Facts := Cert.DwRefIdeal.Gen.facts

theorem frame_Dw : Cert.quiescent_Dw := fun m ρ _ => Cert.Dw.Gen.frame m ρ
theorem frame_DwIdeal : Cert.quiescent_DwIdeal := fun m ρ _ => Cert.DwIdeal.Gen.frame m ρ
theorem frame_DwRefIdeal : Cert.quiescent_DwRefIdeal := fun m ρ _ => Cert.DwRefIdeal.Gen.frame m ρ

/-- At the ideal instance both sides end with `DwForm.res` of the arguments, on which the two memories agree. -/
theorem algebraic : Cert.algebraic_DwIdeal_DwRefIdeal := by
  intro m ρ m' ρ' _ hagree
  refine ⟨fun c => Cert.DwIdeal.Hand.dw m c, Cert.DwIdeal.Hand.run m ρ, ?_⟩
  refine (θ_run Cert.DwRefIdeal.defs _ _).mono (fun r h c => ⟨?_, (h c).2⟩) (Cert.DwRefIdeal.Hand.run_res m' ρ')
  obtain ⟨h0, h1, h2⟩ := hagree c
  have e0 : Cert.DwRefIdeal.Hand.xA m' c = Cert.DwIdeal.Hand.xA m c :=
    funext fun b => funext fun t => funext fun d => congrFun h0 (ix3 b t d)
  have e1 : Cert.DwRefIdeal.Hand.gA m' c = Cert.DwIdeal.Hand.gA m c :=
    funext fun p => funext fun t => funext fun o => congrFun h1 (ix3 p t o)
  have e2 : Cert.DwRefIdeal.Hand.sA m' c = Cert.DwIdeal.Hand.sA m c :=
    funext fun b => funext fun t => congrFun h2 (ix2 b t)
  refine funext fun y => ?_
  obtain ⟨j, p, d, o, hy⟩ := Cert.DwIdeal.Hand.ex_arr1 y
  have key := (h c).1 j p d o
  rw [e0, e1, e2] at key
  exact (congrArg _ hy).trans (key.trans (congrArg (Cert.DwIdeal.Hand.dw m c) hy.symm))

end Cert.DwClaims
-- ==== Proof.lean ====
module

public import proofs.«01_k».proof.Defs
public import proofs.«01_k».proof.Proof.SplitClaims
public import proofs.«01_k».proof.Proof.DxClaims
public import proofs.«01_k».proof.Proof.DwClaims

@[expose] public section

noncomputable section

namespace Cert.Proof

theorem claim : Cert.Claim :=
  ⟨Cert.Split.Gen.facts, Cert.SplitRef.Gen.facts,
    Cert.Dx.Gen.facts, Cert.DxIdeal.Gen.facts, Cert.DxRefIdeal.Gen.facts,
    Cert.Dw.Gen.facts, Cert.DwIdeal.Gen.facts, Cert.DwRefIdeal.Gen.facts,
    Cert.SplitClaims.frame_Split, Cert.SplitClaims.frame_SplitRef,
    Cert.DxClaims.frame_Dx, Cert.DxClaims.frame_DxIdeal, Cert.DxClaims.frame_DxRefIdeal,
    Cert.DwClaims.frame_Dw, Cert.DwClaims.frame_DwIdeal, Cert.DwClaims.frame_DwRefIdeal,
    Cert.SplitClaims.bitexact, trivial, Cert.DxClaims.algebraic, trivial, Cert.DwClaims.algebraic⟩

end Cert.Proof

end
